-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_vocab [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_vocab [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_vocab m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_vocab [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3))
      ∧ r.2.sem = fun _ => 0)

def preserves_Kernel_KernelIdeal : Prop :=
  IdealRules.named_const.Statement Cert.KernelIdeal.κ "mask" .f32 0xFF61B1E6#32 ⊥

def algebraic_KernelIdeal_ReferenceIdeal_pre_in_vocab [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_vocab m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v4_0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v4_0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v0) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjReferenceIdeal : Cert.ProjReferenceIdeal.Facts) (hPre_in_vocab : Cert.Pre_in_vocab.Facts),
    quiescent_Kernel (hKernel := hKernel)
    ∧ quiescent_KernelIdeal (hKernelIdeal := hKernelIdeal)
    ∧ quiescent_KernelIdeal_pre_in_vocab (hKernelIdeal := hKernelIdeal) (hPre_in_vocab := hPre_in_vocab)
    ∧ quiescent_ReferenceIdeal (hReferenceIdeal := hReferenceIdeal)
    ∧ quiescent_ReferenceIdeal_pre_in_vocab (hReferenceIdeal := hReferenceIdeal) (hPre_in_vocab := hPre_in_vocab)
    ∧ quiescent_Proj (hProj := hProj)
    ∧ quiescent_ProjIdeal (hProjIdeal := hProjIdeal)
    ∧ quiescent_ProjReferenceIdeal (hProjReferenceIdeal := hProjReferenceIdeal)
    ∧ preserves_Kernel_KernelIdeal
    ∧ algebraic_KernelIdeal_ReferenceIdeal_pre_in_vocab (hKernelIdeal := hKernelIdeal) (hReferenceIdeal := hReferenceIdeal) (hPre_in_vocab := hPre_in_vocab)
    ∧ preserves_Proj_ProjIdeal
    ∧ algebraic_ProjIdeal_ProjReferenceIdeal (hProjIdeal := hProjIdeal) (hProjReferenceIdeal := hProjReferenceIdeal)
-- ==== Pre_in_vocab.lean ====
abbrev S8192x6144 : Shape := ⟨2, ![8192, 6144]⟩
abbrev S1x8193 : Shape := ⟨2, ![1, 8193]⟩
abbrev S6144x50304 : Shape := ⟨2, ![6144, 50304]⟩
abbrev S48x393 : Shape := ⟨2, ![48, 393]⟩
abbrev S_ : Shape := ⟨0, ![]⟩

class Facts : Prop where
  bcast_S_S1x8193 : S_.BroadcastsInDim S1x8193 (![] : Fin 0 → Fin S1x8193.rank)
  reducesTo_S1x8193_S_d0_1 : S1x8193.ReducesTo [0, 1] S_
  h_S_ : 0 < S_.numel

variable [Facts]

def fn {F : FTy → Type} [FloatOps F] (main_arg0 : FVec F S8192x6144 .bf16) (main_arg1 : IVec S1x8193 32) (main_arg2 : FVec F S6144x50304 .fp8e4m3) (main_arg3 : FVec F S48x393 .f32) : IVec S_ 1 :=
  let main_c : IVec S_ 32 := constantI S_ 32 0#32
  let main_v0 : IVec S1x8193 32 := broadcastInDim S1x8193 ![] bcast_S_S1x8193 main_c
  let main_v1 : IVec S1x8193 1 := cmpi .sge main_arg1 main_v0
  let main_c_0 : IVec S_ 32 := constantI S_ 32 50304#32
  let main_v2 : IVec S1x8193 32 := broadcastInDim S1x8193 ![] bcast_S_S1x8193 main_c_0
  let main_v3 : IVec S1x8193 1 := cmpi .slt main_arg1 main_v2
  let main_v4 : IVec S1x8193 1 := andi main_v1 main_v3
  let main_c_1 : IVec S_ 1 := constantI S_ 1 1#1
  let main_v5 : IVec S_ 1 := (fun x v => Host.reduce IntOp.andi x v reducesTo_S1x8193_S_d0_1 h_S_) main_v4 main_c_1
  main_v5
-- ==== Kernel.lean ====
abbrev S8192x6144 : Shape := ⟨2, ![8192, 6144]⟩
abbrev S1x8193 : Shape := ⟨2, ![1, 8193]⟩
abbrev S6144x50304 : Shape := ⟨2, ![6144, 50304]⟩
abbrev S48x393 : Shape := ⟨2, ![48, 393]⟩
abbrev S1x8192 : Shape := ⟨2, ![1, 8192]⟩
abbrev S8192x1 : Shape := ⟨2, ![8192, 1]⟩
abbrev S8192x128 : Shape := ⟨2, ![8192, 128]⟩
abbrev S48x393x128 : Shape := ⟨3, ![48, 393, 128]⟩
abbrev S48x50304 : Shape := ⟨2, ![48, 50304]⟩
abbrev S1x48x50304 : Shape := ⟨3, ![1, 48, 50304]⟩
abbrev S1024x6144 : Shape := ⟨2, ![1024, 6144]⟩
abbrev S6144x512 : Shape := ⟨2, ![6144, 512]⟩
abbrev S1x48x512 : Shape := ⟨3, ![1, 48, 512]⟩
abbrev S1024x128 : Shape := ⟨2, ![1024, 128]⟩
abbrev S1024x512 : Shape := ⟨2, ![1024, 512]⟩
abbrev S1x1x512 : Shape := ⟨3, ![1, 1, 512]⟩
abbrev S1x512 : Shape := ⟨2, ![1, 512]⟩
abbrev S128x512 : Shape := ⟨2, ![128, 512]⟩
abbrev S256x512 : Shape := ⟨2, ![256, 512]⟩
abbrev S1024x256 : Shape := ⟨2, ![1024, 256]⟩
abbrev S1024 : Shape := ⟨1, ![1024]⟩
abbrev S1024x1 : Shape := ⟨2, ![1024, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x6144, .bf16⟩
  | .hbm, ⟨1, _⟩ => ⟨S1x8193, .i32⟩
  | .hbm, ⟨2, _⟩ => ⟨S6144x50304, .fp8e4m3⟩
  | .hbm, ⟨3, _⟩ => ⟨S48x393, .f32⟩
  | .hbm, ⟨4, _⟩ => ⟨S1x8192, .i32⟩
  | .hbm, ⟨5, _⟩ => ⟨S8192x1, .i32⟩
  | .hbm, ⟨6, _⟩ => ⟨S8192x128, .i32⟩
  | .hbm, ⟨7, _⟩ => ⟨S48x393x128, .f32⟩
  | .hbm, ⟨8, _⟩ => ⟨S48x50304, .f32⟩
  | .hbm, ⟨9, _⟩ => ⟨S1x48x50304, .f32⟩
  | .hbm, ⟨10, _⟩ => ⟨S8192x128, .f32⟩
  | .local _ .vmem, ⟨0, _⟩ => ⟨S1024x6144, .bf16⟩
  | .local _ .vmem, ⟨1, _⟩ => ⟨S1024x6144, .bf16⟩
  | .local _ .vmem, ⟨2, _⟩ => ⟨S6144x512, .fp8e4m3⟩
  | .local _ .vmem, ⟨3, _⟩ => ⟨S6144x512, .fp8e4m3⟩
  | .local _ .vmem, ⟨4, _⟩ => ⟨S1x48x512, .f32⟩
  | .local _ .vmem, ⟨5, _⟩ => ⟨S1x48x512, .f32⟩
  | .local _ .vmem, ⟨6, _⟩ => ⟨S1024x128, .i32⟩
  | .local _ .vmem, ⟨7, _⟩ => ⟨S1024x128, .i32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 99], ![false, false]⟩

def k0_cond2 (i : grid0.Coords) : BitVec 1 :=
  let arg1 : BitVec 32 := BitVec.ofNat 32 (i 1).val
  let c98_i32 : BitVec 32 := 98#32
  let v469 : BitVec 1 := Scalar.cmpi .eq arg1 c98_i32
  let v470 : BitVec 32 := Scalar.extui v469
  let c0_i32_219 : BitVec 32 := 0#32
  let v471 : BitVec 1 := Scalar.cmpi .ne v470 c0_i32_219
  v471

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S6144x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x48x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S8192x6144 : Shape := ⟨2, ![8192, 6144]⟩
abbrev S1x8193 : Shape := ⟨2, ![1, 8193]⟩
abbrev S6144x50304 : Shape := ⟨2, ![6144, 50304]⟩
abbrev S48x393 : Shape := ⟨2, ![48, 393]⟩
abbrev S1x8192 : Shape := ⟨2, ![1, 8192]⟩
abbrev S8192x1 : Shape := ⟨2, ![8192, 1]⟩
abbrev S8192x128 : Shape := ⟨2, ![8192, 128]⟩
abbrev S48x128x393x128 : Shape := ⟨4, ![48, 128, 393, 128]⟩
abbrev S48x1x393x1 : Shape := ⟨4, ![48, 1, 393, 1]⟩
abbrev S8192x50304 : Shape := ⟨2, ![8192, 50304]⟩
abbrev S8192 : Shape := ⟨1, ![8192]⟩

abbrev nBuf : Space → Nat
  | .hbm => 7
  | .vmem => 5
  | .smem => 0
  | _ => 0

abbrev bufTy : (tb : Table) → Fin (tcTables nBuf tb) → BufTy
  | .hbm, ⟨0, _⟩ => ⟨S8192x6144, .bf16⟩
  | .hbm, ⟨1, _⟩ => ⟨S1x8193, .i32⟩
  | .hbm, ⟨2, _⟩ => ⟨S6144x50304, .fp8e4m3⟩
  | .hbm, ⟨3, _⟩ => ⟨S48x393, .f32⟩
  | .hbm, ⟨4, _⟩ => ⟨S1x8192, .i32⟩
  | .hbm, ⟨5, _⟩ => ⟨S8192x1, .i32⟩
  | .hbm, ⟨6, _⟩ => ⟨S8192x128, .f32⟩
  | .local _ .vmem, ⟨0, _⟩ => ⟨S8192x6144, .bf16⟩
  | .local _ .vmem, ⟨1, _⟩ => ⟨S8192x1, .i32⟩
  | .local _ .vmem, ⟨2, _⟩ => ⟨S6144x50304, .fp8e4m3⟩
  | .local _ .vmem, ⟨3, _⟩ => ⟨S48x393, .f32⟩
  | .local _ .vmem, ⟨4, _⟩ => ⟨S8192x128, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8192x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x50304 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x393 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proj.lean ====
abbrev S8192x12288 : Shape := ⟨2, ![8192, 12288]⟩
abbrev S6144 : Shape := ⟨1, ![6144]⟩
abbrev S12288x6144 : Shape := ⟨2, ![12288, 6144]⟩
abbrev S96x48 : Shape := ⟨2, ![96, 48]⟩
abbrev S96x48x128 : Shape := ⟨3, ![96, 48, 128]⟩
abbrev S96x6144 : Shape := ⟨2, ![96, 6144]⟩
abbrev S1x96x6144 : Shape := ⟨3, ![1, 96, 6144]⟩
abbrev S1x6144 : Shape := ⟨2, ![1, 6144]⟩
abbrev S8192x6144 : Shape := ⟨2, ![8192, 6144]⟩
abbrev S8192x48 : Shape := ⟨2, ![8192, 48]⟩
abbrev S256x12288 : Shape := ⟨2, ![256, 12288]⟩
abbrev S12288x512 : Shape := ⟨2, ![12288, 512]⟩
abbrev S1x96x512 : Shape := ⟨3, ![1, 96, 512]⟩
abbrev S256x6144 : Shape := ⟨2, ![256, 6144]⟩
abbrev S256x48 : Shape := ⟨2, ![256, 48]⟩
abbrev S256x512 : Shape := ⟨2, ![256, 512]⟩
abbrev S1x1x512 : Shape := ⟨3, ![1, 1, 512]⟩
abbrev S1x512 : Shape := ⟨2, ![1, 512]⟩
abbrev S128x512 : Shape := ⟨2, ![128, 512]⟩
abbrev S256x256 : Shape := ⟨2, ![256, 256]⟩
abbrev S64x128 : Shape := ⟨2, ![64, 128]⟩
abbrev S64 : Shape := ⟨1, ![64]⟩
abbrev S64x1 : Shape := ⟨2, ![64, 1]⟩
abbrev S64x48 : Shape := ⟨2, ![64, 48]⟩
abbrev S1x128 : Shape := ⟨2, ![1, 128]⟩
abbrev S64x256 : Shape := ⟨2, ![64, 256]⟩

abbrev nBuf : Space → Nat
  | .hbm => 12
  | .vmem => 16
  | .smem => 0
  | _ => 0

abbrev bufTy : (tb : Table) → Fin (tcTables nBuf tb) → BufTy
  | .hbm, ⟨0, _⟩ => ⟨S8192x12288, .bf16⟩
  | .hbm, ⟨1, _⟩ => ⟨S6144, .f32⟩
  | .hbm, ⟨2, _⟩ => ⟨S12288x6144, .fp8e4m3⟩
  | .hbm, ⟨3, _⟩ => ⟨S96x48, .f32⟩
  | .hbm, ⟨4, _⟩ => ⟨S96x48x128, .f32⟩
  | .hbm, ⟨5, _⟩ => ⟨S96x6144, .f32⟩
  | .hbm, ⟨6, _⟩ => ⟨S1x96x6144, .f32⟩
  | .hbm, ⟨7, _⟩ => ⟨S1x6144, .f32⟩
  | .hbm, ⟨8, _⟩ => ⟨S8192x6144, .bf16⟩
  | .hbm, ⟨9, _⟩ => ⟨S8192x6144, .fp8e4m3⟩
  | .hbm, ⟨10, _⟩ => ⟨S8192x48, .f32⟩
  | .hbm, ⟨11, _⟩ => ⟨S8192x6144, .bf16⟩
  | .local _ .vmem, ⟨0, _⟩ => ⟨S256x12288, .bf16⟩
  | .local _ .vmem, ⟨1, _⟩ => ⟨S256x12288, .bf16⟩
  | .local _ .vmem, ⟨2, _⟩ => ⟨S12288x512, .fp8e4m3⟩
  | .local _ .vmem, ⟨3, _⟩ => ⟨S12288x512, .fp8e4m3⟩
  | .local _ .vmem, ⟨4, _⟩ => ⟨S1x96x512, .f32⟩
  | .local _ .vmem, ⟨5, _⟩ => ⟨S1x96x512, .f32⟩
  | .local _ .vmem, ⟨6, _⟩ => ⟨S1x6144, .f32⟩
  | .local _ .vmem, ⟨7, _⟩ => ⟨S256x6144, .bf16⟩
  | .local _ .vmem, ⟨8, _⟩ => ⟨S256x6144, .bf16⟩
  | .local _ .vmem, ⟨9, _⟩ => ⟨S256x6144, .fp8e4m3⟩
  | .local _ .vmem, ⟨10, _⟩ => ⟨S256x6144, .fp8e4m3⟩
  | .local _ .vmem, ⟨11, _⟩ => ⟨S256x48, .f32⟩
  | .local _ .vmem, ⟨12, _⟩ => ⟨S256x48, .f32⟩
  | .local _ .vmem, ⟨13, _⟩ => ⟨S256x6144, .bf16⟩
  | .local _ .vmem, ⟨14, _⟩ => ⟨S256x6144, .bf16⟩
  | .local _ .vmem, ⟨15, _⟩ => ⟨S256x6144, .f32⟩
  | _, _ => ⟨S8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 12], ![false, false]⟩

def k0_mult1 (i : grid0.Coords) : BitVec 32 :=
  let arg1 : BitVec 32 := BitVec.ofNat 32 (i 1).val
  let c512_i32 : BitVec 32 := 512#32
  let v769 : BitVec 32 := Scalar.muli arg1 c512_i32
  v769
def k0_off1 (i : grid0.Coords) : Fin 2 → Nat :=
  let c0_385 : Index := 0#32
  let arg1 : BitVec 32 := BitVec.ofNat 32 (i 1).val
  let c512_i32 : BitVec 32 := 512#32
  let v769 : BitVec 32 := Scalar.muli arg1 c512_i32
  let v770 : BitVec 32 := v769
  let v771 : Index := Scalar.indexCast v770
  ![0, v771.toNat]
def k0_cond1 (i : grid0.Coords) : BitVec 1 :=
  let arg1 : BitVec 32 := BitVec.ofNat 32 (i 1).val
  let c11_i32 : BitVec 32 := 11#32
  let v775 : BitVec 1 := Scalar.cmpi .eq arg1 c11_i32
  let v776 : BitVec 32 := Scalar.extui v775
  let c0_i32 : BitVec 32 := 0#32
  let v777 : BitVec 1 := Scalar.cmpi .ne v776 c0_i32
  v777

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x12288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S12288x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x96x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x6144 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x6144 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x48 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x6144 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ProjReferenceIdeal.lean ====
abbrev S8192x12288 : Shape := ⟨2, ![8192, 12288]⟩
abbrev S6144 : Shape := ⟨1, ![6144]⟩
abbrev S12288x6144 : Shape := ⟨2, ![12288, 6144]⟩
abbrev S96x48 : Shape := ⟨2, ![96, 48]⟩
abbrev S8192x6144 : Shape := ⟨2, ![8192, 6144]⟩
abbrev S96x128x48x128 : Shape := ⟨4, ![96, 128, 48, 128]⟩
abbrev S96x1x48x1 : Shape := ⟨4, ![96, 1, 48, 1]⟩

abbrev nBuf : Space → Nat
  | .hbm => 5
  | .vmem => 4
  | .smem => 0
  | _ => 0

abbrev bufTy : (tb : Table) → Fin (tcTables nBuf tb) → BufTy
  | .hbm, ⟨0, _⟩ => ⟨S8192x12288, .bf16⟩
  | .hbm, ⟨1, _⟩ => ⟨S6144, .f32⟩
  | .hbm, ⟨2, _⟩ => ⟨S12288x6144, .fp8e4m3⟩
  | .hbm, ⟨3, _⟩ => ⟨S96x48, .f32⟩
  | .hbm, ⟨4, _⟩ => ⟨S8192x6144, .bf16⟩
  | .local _ .vmem, ⟨0, _⟩ => ⟨S8192x12288, .bf16⟩
  | .local _ .vmem, ⟨1, _⟩ => ⟨S12288x6144, .fp8e4m3⟩
  | .local _ .vmem, ⟨2, _⟩ => ⟨S96x48, .f32⟩
  | .local _ .vmem, ⟨3, _⟩ => ⟨S8192x6144, .bf16⟩
  | _, _ => ⟨S8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8192x12288 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x6144 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Word.Base.lean ====
/- What the proofs about the body share: when its two conditions hold (the first and the last tile of the
   vocabulary), where the output window is idle, the names of the staging memrefs, and the scratch. -/
module

public import proofs.«01_k».proof.Proof.Gen.Kernel.Frame
public import proofs.«01_k».proof.Proof.Gen.Kernel.Skeleton

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 99) — by arithmetic of the point. -/
theorem hcond0_0 : ∀ t : Fin cfg0.N, cond0_0 (grid0.coords t) ↔ t.val % 99 = 0 :=
  (fun t => by
    have ht : t.val < 792 := Nat.lt_of_lt_of_eq t.isLt N_0
    have e0 : (grid0.coords t 0).val = t.val / 99 % 8 := Pipeline.Grid.coords_val t 0 (by decide) rfl
    have e1 : (grid0.coords t 1).val = t.val / 1 % 99 := Pipeline.Grid.coords_val t 1 (by decide) rfl
    simp only [cond0_0, e0, e1]
    word_cmp
   : ∀ t : Fin grid0.N, cond0_0 (grid0.coords t) ↔ t.val % 99 = 0)

/-- The condition of the body's `scf.if` 1 (`k0_h2`), from the grid coordinates (the skeleton's scalar
    chain substituted). -/
abbrev cond0_1 (i : grid0.Coords) : Prop := k0_cond2 i = 1#1
/-- It holds at the points ≡ 98 (mod 99) — by arithmetic of the point. -/
theorem hcond0_1 : ∀ t : Fin cfg0.N, cond0_1 (grid0.coords t) ↔ t.val % 99 = 98 :=
  (fun t => by
    have ht : t.val < 792 := Nat.lt_of_lt_of_eq t.isLt N_0
    have e0 : (grid0.coords t 0).val = t.val / 99 % 8 := Pipeline.Grid.coords_val t 0 (by decide) rfl
    have e1 : (grid0.coords t 1).val = t.val / 1 % 99 := Pipeline.Grid.coords_val t 1 (by decide) rfl
    simp only [cond0_1, k0_cond2, e0, e1]
    word_cmp
   : ∀ t : Fin grid0.N, cond0_1 (grid0.coords t) ↔ t.val % 99 = 98)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The staging memrefs and the scratch -/

/-- Each window's current staging memref at point `t`, spelled as the pipeline passes it (`bodyAt0`), and its wholeness. -/
abbrev ms0_0 (t : Fin cfg0.N) : Memref sig .tc .vmem S1024x6144 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6144x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x48x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S1024x128 .f32 := Memref.whole cc0_scratch0
abbrev scM0_1 : Memref sig .tc .vmem S1024x128 .f32 := Memref.whole cc0_scratch1
abbrev scM0_2 : Memref sig .tc .vmem S1024x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Hand

end
-- ==== Proof.Word.Run.lean ====
/- The body, run at any contents of the scratch: it ends, and leaves its inputs as they were. -/
module

public import proofs.«01_k».proof.Proof.Word.Base

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body, run on whole staging memrefs and the scratch at any contents: the inputs are left as they were, the
    scratch and the output at some contents. The four cases of its two conditions run by the same steps. -/
theorem run_body (c : Dev nD) (i : grid0.Coords) (arg2 : Memref sig .tc .vmem S1024x6144 .bf16) (harg2 : arg2.IsWhole) (arg3 : Memref sig .tc .vmem S6144x512 .fp8e4m3) (harg3 : arg3.IsWhole) (arg4 : Memref sig .tc .vmem S1x48x512 .f32) (harg4 : arg4.IsWhole) (arg5 : Memref sig .tc .vmem S1024x128 .i32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (x0 : Vec F S1024x6144 .bf16) (x1 : Vec F S6144x512 .fp8e4m3) (x2 : Vec F S1x48x512 .f32) (x3 : Vec F S1024x128 .i32) (xi4 : Vec F S1024x128 .f32) (xs0 : Vec F S1024x128 .f32) (xs1 : Vec F S1024x128 .f32) (xs2 : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1 ∗ owns (c : Thread nD τ) arg9 fullShare xs2 ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.none c none) E (cc0_head i arg2 harg2 arg3 harg3 arg4 harg4 arg5 harg5 arg6 harg6 arg7 harg7 arg8 harg8 arg9 harg9) K := by
  by_cases hc0 : cond0_0 i <;> by_cases hc1 : cond0_1 i
  all_goals
    simp only [cc0_head_eq_skeleton]; unfold cc0_head_skel
    simp only [k0_part13_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    subst hf0; subst hf1; subst hf2; subst hf3; subst hf4; subst hfs0; subst hfs1; subst hfs2
    sl_exec (disch := first | sl_exact hc0 | sl_exact hc1)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; iexists _; isplitr
      swap; iexact H4
      ipureintro; rfl
    isplitl [HS0]
    · iexists _; iexists _; isplitr
      swap; iexact HS0
      ipureintro; rfl
    isplitl [HS1]
    · iexists _; iexists _; isplitr
      swap; iexact HS1
      ipureintro; rfl
    iexists _; iexists _; isplitr
    swap; iexact HS2
    ipureintro; rfl

end Cert.Kernel.Hand

end
-- ==== Proof.Word.Frame.lean ====
/- The run of the whole program at any values: it ends, its arguments unchanged and every semaphore counter at zero.
   Nothing is said of the result. -/
module

public import proofs.«01_k».proof.Proof.Word.Run

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What fills a clipped block's part past the array's end where some contents must be named: zeros. No claim reads it. -/
abbrev filler1 : S6144x512.Idx → Elt F .fp8e4m3 := fun _ => Scalar.ofBits .fp8e4m3 0#8
abbrev filler2 : S1x48x512.Idx → Elt F .f32 := fun _ => Scalar.ofBits .f32 0#32

/-- The proof data: the arrays as the region finds them, each input's block left in place, the output unnamed; the
    scratch and the generator at anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) filler1 (iblk m c 1 t)
    | ⟨2, _⟩ => win0_2.fill (grid0.coords t) filler2 (iblk m c 2 t)
    | ⟨3, _⟩ => iblk m c 3 t
    | ⟨4, _⟩ => Pipeline.Dat.unnamed (cfg := cfg0) 4 t
  Φ _ := Pipeline.ΦA spec0 c
  q _ := fullShare
  owed _ := 0

/-- The output window is the one nothing is said of. -/
def forgets : Fin 5 → Bool := fun w => w == 4

theorem A_eq (c : Dev nD) (w : Fin cfg0.W) : (dats m 0 c).A w = V m c (Pipeline.arrRef spec0 w) := by dsimp only [dats]

theorem before0_0 (c : Dev nD) (t : Fin cfg0.N) (d) : (dats m 0 c).before 0 t d = iblk m c 0 t :=
  before0_0_of m (dats m 0 c) (A_eq m c 0) (fun _ => rfl) t d
theorem before0_3 (c : Dev nD) (t : Fin cfg0.N) (d) : (dats m 0 c).before 3 t d = iblk m c 3 t :=
  before0_3_of m (dats m 0 c) (A_eq m c 3) (fun _ => rfl) t d
theorem before0_1 (c : Dev nD) (t : Fin cfg0.N) (d) : (dats m 0 c).before 1 t d = win0_1.fill (grid0.coords t) d (iblk m c 1 t) := by
  unfold Dat.before; rw [if_pos (fetch0_1 t)]; rfl
theorem before0_2 (c : Dev nD) (t : Fin cfg0.N) (d) : (dats m 0 c).before 2 t d = win0_2.fill (grid0.coords t) d (iblk m c 2 t) := by
  unfold Dat.before; rw [if_pos (fetch0_2 t)]; rfl

/-- The body table's row at point `t`'s slots is the body as `bodyAt0` spells it. -/
theorem defs₀_row (t : Fin cfg0.N) : defs₀ (F := F) .tc cfg0.body (cfg0.bodyArgs t (cfg0.slots t)) = bodyAt0 t := by
  unfold defs₀; rw [Defs.onTc_tc]

set_option maxHeartbeats 2000000 in
theorem body_obligation (c : Dev nD) : BodyObligationLoose (dats m 0 c) (defs₀ (F := F)) Variants.none () Set.univ forgets := fun t => by
  rw [bigSep_W0, bigSep_W0, defs₀_row]
  simp only [show forgets 0 = false from rfl, show forgets 1 = false from rfl, show forgets 2 = false from rfl, show forgets 3 = false from rfl, show forgets 4 = true from rfl]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  unfold bodyAt0
  iintro ⟨⟨⟨⟨%s0, HS0⟩, ⟨%s1, HS1⟩, ⟨%s2, HS2⟩⟩, Hg⟩, Ho, ⟨%d0, H0⟩, ⟨%d1, H1⟩, ⟨%d2, H2⟩, ⟨%d3, H3⟩, ⟨%d4, H4⟩⟩
  rw [before0_0 m c t d0, before0_1 m c t d1, before0_2 m c t d2, before0_3 m c t d3]
  iapply (run_body c (grid0.coords t) _ _ _ _ _ _ _ _ _ _ _ _ _ _ _ _ (iblk m c 0 t) (win0_1.fill (grid0.coords t) d1 (iblk m c 1 t)) (win0_2.fill (grid0.coords t) d2 (iblk m c 2 t)) (iblk m c 3 t) d4 s0 s1 s2 Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  iintro ⟨H0, H1, H2, H3, H4, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  have h1 : win0_1.cut (grid0.coords t) ((dats m 0 c).after 1 t) = iblk m c 1 t := win0_1.cut_fill _ _ _
  have h2 : win0_2.cut (grid0.coords t) ((dats m 0 c).after 2 t) = iblk m c 2 t := win0_2.cut_fill _ _ _
  isplitl [H0]; · iexact H0
  isplitl [H1]
  · iexists d1
    change _ ⊢ owns (c : Thread nD τ) (ms0_1 t) fullShare (win0_1.fill (grid0.coords t) d1 (win0_1.cut (grid0.coords t) ((dats m 0 c).after 1 t)))
    rw [h1]; try iexact H1
  isplitl [H2]
  · iexists d2
    change _ ⊢ owns (c : Thread nD τ) (ms0_2 t) fullShare (win0_2.fill (grid0.coords t) d2 (win0_2.cut (grid0.coords t) ((dats m 0 c).after 2 t)))
    rw [h2]; try iexact H2
  isplitl [H3]; · iexact H3
  iexact H4

-- the library theorem's implicit arguments are found by unifying its conclusion with this statement
set_option backward.isDefEq.respectTransparency.types false in
/-- Every weakly fair execution of the program ends; the buffers that are no output's array end as the region found them, and
    every semaphore counter at zero. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := body_obligation m) (hshare := fun c => (dats m 0 c).share_full fun _ => rfl)
    (howed := fun _ _ => rfl) (V := V m) (hmain := hmain m Variants.none) (hA := A_eq m) (hΦ := fun _ _ => rfl)

/-- The frame and quiescence. -/
theorem run_frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨
      (Pipeline.RDat.FramePost.arr_in h.1 c 0 rfl).trans ((A_eq m c 0).trans (V_main_arg0 m c)),
      ((h.1 c).2 main_arg1 (Pipeline.mem_restRefs_of main_arg1 (by decide) (by decide))).trans (V_main_arg1 m c),
      (Pipeline.RDat.FramePost.arr_in h.1 c 1 rfl).trans ((A_eq m c 1).trans (V_main_arg2 m c)),
      ((h.1 c).2 main_arg3 (Pipeline.mem_restRefs_of main_arg3 (by decide) (by decide))).trans (V_main_arg3 m c)⟩, h.2⟩) (run_main m ρ)

end Cert.Kernel.Hand

end
-- ==== Proof.Pre.lean ====
/- The side conditions of the precondition's function, and what the precondition says of the tokens. -/
module

public import proofs.«01_k».proof.Defs
public import Idealize.ShloMosaic.Lib.ReduceAll

@[expose] public section

namespace Cert.Pre_in_vocab.Hand

open Idealize.ShloMosaic

theorem facts : Cert.Pre_in_vocab.Facts where
  bcast_S_S1x8193 := by decide
  reducesTo_S1x8193_S_d0_1 := by decide
  h_S_ := by decide

instance : Subsingleton S_.Idx := ⟨fun a b => funext fun i => i.elim0⟩

/-- Where the precondition holds, every token is below the vocabulary's size. -/
theorem lt_of_pre {F : FTy → Type} [FloatOps F] [hFacts : Cert.Pre_in_vocab.Facts] (a0 : FVec F S8192x6144 .bf16) (a1 : IVec S1x8193 32) (a2 : FVec F S6144x50304 .fp8e4m3) (a3 : FVec F S48x393 .f32)
    (h : Cert.Pre_in_vocab.fn a0 a1 a2 a3 = fun _ => 1#1) (i : S1x8193.Idx) : (a1 i).toNat < 50304 := by
  have e := Host.reduce_andi_all _ _ _ _ (fun i => i.elim0) (congrFun h fun i => i.elim0) i
  simp only [andi, cmpi, broadcastInDim, constantI] at e
  have ha : ∀ (p q : Bool), IntOp.andi (BitVec.ofBool p) (BitVec.ofBool q) = BitVec.ofBool (p && q) := by
    intro p q; cases p <;> cases q <;> decide
  have ho : ∀ p : Bool, (BitVec.ofBool p = 1#1) ↔ p = true := fun p => by cases p <;> decide
  simp only [IntOp.cmpi, ha, ho, Bool.and_eq_true, BitVec.sle_eq_decide, BitVec.slt_eq_decide, decide_eq_true_eq] at e
  have h0 : (0#32 : BitVec 32).toInt = 0 := by decide
  have h4 : (50304#32 : BitVec 32).toInt = 50304 := by decide
  rw [h0, h4] at e
  have := BitVec.toInt_eq_toNat_cond (a1 i)
  have := (a1 i).isLt
  split at * <;> omega

end Cert.Pre_in_vocab.Hand
-- ==== Proof.Ideal.Base.lean ====
/- What the proofs about the body share: when its two conditions hold (the first and the last tile of the
   vocabulary), where the output window is idle, the names of the staging memrefs, and the scratch. -/
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 99) — by arithmetic of the point. -/
theorem hcond0_0 : ∀ t : Fin cfg0.N, cond0_0 (grid0.coords t) ↔ t.val % 99 = 0 :=
  (fun t => by
    have ht : t.val < 792 := Nat.lt_of_lt_of_eq t.isLt N_0
    have e0 : (grid0.coords t 0).val = t.val / 99 % 8 := Pipeline.Grid.coords_val t 0 (by decide) rfl
    have e1 : (grid0.coords t 1).val = t.val / 1 % 99 := Pipeline.Grid.coords_val t 1 (by decide) rfl
    simp only [cond0_0, e0, e1]
    word_cmp
   : ∀ t : Fin grid0.N, cond0_0 (grid0.coords t) ↔ t.val % 99 = 0)

/-- The condition of the body's `scf.if` 1 (`k0_h2`), from the grid coordinates (the skeleton's scalar
    chain substituted). -/
abbrev cond0_1 (i : grid0.Coords) : Prop := k0_cond2 i = 1#1
/-- It holds at the points ≡ 98 (mod 99) — by arithmetic of the point. -/
theorem hcond0_1 : ∀ t : Fin cfg0.N, cond0_1 (grid0.coords t) ↔ t.val % 99 = 98 :=
  (fun t => by
    have ht : t.val < 792 := Nat.lt_of_lt_of_eq t.isLt N_0
    have e0 : (grid0.coords t 0).val = t.val / 99 % 8 := Pipeline.Grid.coords_val t 0 (by decide) rfl
    have e1 : (grid0.coords t 1).val = t.val / 1 % 99 := Pipeline.Grid.coords_val t 1 (by decide) rfl
    simp only [cond0_1, k0_cond2, e0, e1]
    word_cmp
   : ∀ t : Fin grid0.N, cond0_1 (grid0.coords t) ↔ t.val % 99 = 98)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- At the points of case A the printed configuration (`Cfg.idle`) calls output 4 idle: the case stores nothing into it. -/
theorem idleAt0_4_A : ∀ t : Fin cfg0.N, cond0_0 (grid0.coords t) → ¬cond0_1 (grid0.coords t) → cfg0.idle 4 (grid0.coords t) = true := by decide +kernel
/-- At the points of case A the pipeline does not write output 4's block back. -/
theorem noFlush0_4_A : ∀ t : Fin cfg0.N, cond0_0 (grid0.coords t) → ¬cond0_1 (grid0.coords t) → (cfg0.win 4).flush t = false := by decide +kernel
/-- At the points of case B the printed configuration (`Cfg.idle`) calls output 4 idle: the case stores nothing into it. -/
theorem idleAt0_4_B : ∀ t : Fin cfg0.N, ¬cond0_0 (grid0.coords t) → ¬cond0_1 (grid0.coords t) → cfg0.idle 4 (grid0.coords t) = true := by decide +kernel
/-- At the points of case B the pipeline does not write output 4's block back. -/
theorem noFlush0_4_B : ∀ t : Fin cfg0.N, ¬cond0_0 (grid0.coords t) → ¬cond0_1 (grid0.coords t) → (cfg0.win 4).flush t = false := by decide +kernel
/-- At the points of case C the printed configuration (`Cfg.idle`) calls output 4 live: the case stores into it. -/
theorem liveAt0_4_C : ∀ t : Fin cfg0.N, ¬cond0_0 (grid0.coords t) → cond0_1 (grid0.coords t) → cfg0.idle 4 (grid0.coords t) = false := by decide +kernel

/-! ## The staging memrefs and the scratch -/

/-- Each window's current staging memref at point `t`, spelled as the pipeline passes it (`bodyAt0`), and its wholeness. -/
abbrev ms0_0 (t : Fin cfg0.N) : Memref sig .tc .vmem S1024x6144 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6144x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x48x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S1024x128 .f32 := Memref.whole cc0_scratch0
abbrev scM0_1 : Memref sig .tc .vmem S1024x128 .f32 := Memref.whole cc0_scratch1
abbrev scM0_2 : Memref sig .tc .vmem S1024x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.Ideal.Step.lean ====
/- What one run of the body computes, as functions of the blocks it is given and of what the scratch held. -/
module

public import proofs.«01_k».proof.Proof.Ideal.Base

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- The tile of logits the body forms from its blocks: the twenty-four products, added up in order. -/
def accPay (x0 : Vec F S1024x6144 .bf16) (x1 : Vec F S6144x512 .fp8e4m3) (x2 : Vec F S1x48x512 .f32) : FVec F S1024x512 .f32 :=
  let v4 : Vec F S1x1x512 .f32 := View.ld x2 (Rect.unit (s := S1x48x512) ![0, 0, 0] S1x1x512.size inb_S1x48x512_S1x1x512_0_0_0)
  let v8 : Vec F S1x1x512 .f32 := View.ld x2 (Rect.unit (s := S1x48x512) ![0, 1, 0] S1x1x512.size inb_S1x48x512_S1x1x512_0_1_0)
  let v13 : Vec F S256x512 .fp8e4m3 := View.ld x1 (Rect.unit (s := S6144x512) ![0, 0] S256x512.size inb_S6144x512_S256x512_0_0)
  let v17 : Vec F S1024x256 .bf16 := View.ld x0 (Rect.unit (s := S1024x6144) ![0, 0] S1024x256.size inb_S1024x6144_S1024x256_0_0)
  let v20 : Vec F S1x1x512 .f32 := View.ld x2 (Rect.unit (s := S1x48x512) ![0, 2, 0] S1x1x512.size inb_S1x48x512_S1x1x512_0_2_0)
  let v24 : Vec F S1x1x512 .f32 := View.ld x2 (Rect.unit (s := S1x48x512) ![0, 3, 0] S1x1x512.size inb_S1x48x512_S1x1x512_0_3_0)
  let v29 : Vec F S256x512 .fp8e4m3 := View.ld x1 (Rect.unit (s := S6144x512) ![256, 0] S256x512.size inb_S6144x512_S256x512_256_0)
  let v19 := k0_pay6 v4 v8 v13 v17
  let v32 := k0_pay7 v20 v24 v29
  let v33 : Vec F S1024x256 .bf16 := View.ld x0 (Rect.unit (s := S1024x6144) ![0, 256] S1024x256.size inb_S1024x6144_S1024x256_0_256)
  let v36 : Vec F S1x1x512 .f32 := View.ld x2 (Rect.unit (s := S1x48x512) ![0, 4, 0] S1x1x512.size inb_S1x48x512_S1x1x512_0_4_0)
  let v40 : Vec F S1x1x512 .f32 := View.ld x2 (Rect.unit (s := S1x48x512) ![0, 5, 0] S1x1x512.size inb_S1x48x512_S1x1x512_0_5_0)
  let v45 : Vec F S256x512 .fp8e4m3 := View.ld x1 (Rect.unit (s := S6144x512) ![512, 0] S256x512.size inb_S6144x512_S256x512_512_0)
  let v49 : Vec F S1024x256 .bf16 := View.ld x0 (Rect.unit (s := S1024x6144) ![0, 512] S1024x256.size inb_S1024x6144_S1024x256_0_512)
  let v52 : Vec F S1x1x512 .f32 := View.ld x2 (Rect.unit (s := S1x48x512) ![0, 6, 0] S1x1x512.size inb_S1x48x512_S1x1x512_0_6_0)
  let v56 : Vec F S1x1x512 .f32 := View.ld x2 (Rect.unit (s := S1x48x512) ![0, 7, 0] S1x1x512.size inb_S1x48x512_S1x1x512_0_7_0)
  let v61 : Vec F S256x512 .fp8e4m3 := View.ld x1 (Rect.unit (s := S6144x512) ![768, 0] S256x512.size inb_S6144x512_S256x512_768_0)
  let v65 : Vec F S1024x256 .bf16 := View.ld x0 (Rect.unit (s := S1024x6144) ![0, 768] S1024x256.size inb_S1024x6144_S1024x256_0_768)
  let v67 := (k0_pay8 v19 v32 v33 v36 v40 v45 v49 v52 v56 v61 v65)
  let v68 : Vec F S1x1x512 .f32 := View.ld x2 (Rect.unit (s := S1x48x512) ![0, 8, 0] S1x1x512.size inb_S1x48x512_S1x1x512_0_8_0)
  let v72 : Vec F S1x1x512 .f32 := View.ld x2 (Rect.unit (s := S1x48x512) ![0, 9, 0] S1x1x512.size inb_S1x48x512_S1x1x512_0_9_0)
  let v77 : Vec F S256x512 .fp8e4m3 := View.ld x1 (Rect.unit (s := S6144x512) ![1024, 0] S256x512.size inb_S6144x512_S256x512_1024_0)
  let v81 : Vec F S1024x256 .bf16 := View.ld x0 (Rect.unit (s := S1024x6144) ![0, 1024] S1024x256.size inb_S1024x6144_S1024x256_0_1024)
  let v84 : Vec F S1x1x512 .f32 := View.ld x2 (Rect.unit (s := S1x48x512) ![0, 10, 0] S1x1x512.size inb_S1x48x512_S1x1x512_0_10_0)
  let v88 : Vec F S1x1x512 .f32 := View.ld x2 (Rect.unit (s := S1x48x512) ![0, 11, 0] S1x1x512.size inb_S1x48x512_S1x1x512_0_11_0)
  let v93 : Vec F S256x512 .fp8e4m3 := View.ld x1 (Rect.unit (s := S6144x512) ![1280, 0] S256x512.size inb_S6144x512_S256x512_1280_0)
  let v97 : Vec F S1024x256 .bf16 := View.ld x0 (Rect.unit (s := S1024x6144) ![0, 1280] S1024x256.size inb_S1024x6144_S1024x256_0_1280)
  let v100 : Vec F S1x1x512 .f32 := View.ld x2 (Rect.unit (s := S1x48x512) ![0, 12, 0] S1x1x512.size inb_S1x48x512_S1x1x512_0_12_0)
  let v99 := k0_pay9 v67 v68 v72 v77 v81 v84 v88 v93 v97
  let v103 := k0_pay10 v100
  let v104 : Vec F S1x1x512 .f32 := View.ld x2 (Rect.unit (s := S1x48x512) ![0, 13, 0] S1x1x512.size inb_S1x48x512_S1x1x512_0_13_0)
  let v109 : Vec F S256x512 .fp8e4m3 := View.ld x1 (Rect.unit (s := S6144x512) ![1536, 0] S256x512.size inb_S6144x512_S256x512_1536_0)
  let v113 : Vec F S1024x256 .bf16 := View.ld x0 (Rect.unit (s := S1024x6144) ![0, 1536] S1024x256.size inb_S1024x6144_S1024x256_0_1536)
  let v116 : Vec F S1x1x512 .f32 := View.ld x2 (Rect.unit (s := S1x48x512) ![0, 14, 0] S1x1x512.size inb_S1x48x512_S1x1x512_0_14_0)
  let v120 : Vec F S1x1x512 .f32 := View.ld x2 (Rect.unit (s := S1x48x512) ![0, 15, 0] S1x1x512.size inb_S1x48x512_S1x1x512_0_15_0)
  let v125 : Vec F S256x512 .fp8e4m3 := View.ld x1 (Rect.unit (s := S6144x512) ![1792, 0] S256x512.size inb_S6144x512_S256x512_1792_0)
  let v129 : Vec F S1024x256 .bf16 := View.ld x0 (Rect.unit (s := S1024x6144) ![0, 1792] S1024x256.size inb_S1024x6144_S1024x256_0_1792)
  let v132 : Vec F S1x1x512 .f32 := View.ld x2 (Rect.unit (s := S1x48x512) ![0, 16, 0] S1x1x512.size inb_S1x48x512_S1x1x512_0_16_0)
  let v136 : Vec F S1x1x512 .f32 := View.ld x2 (Rect.unit (s := S1x48x512) ![0, 17, 0] S1x1x512.size inb_S1x48x512_S1x1x512_0_17_0)
  let v131 := k0_pay11 v99 v103 v104 v109 v113 v116 v120 v125 v129
  let v135 := k0_pay12 v132
  let v139 := k0_pay13 v136
  let v141 : Vec F S256x512 .fp8e4m3 := View.ld x1 (Rect.unit (s := S6144x512) ![2048, 0] S256x512.size inb_S6144x512_S256x512_2048_0)
  let v145 : Vec F S1024x256 .bf16 := View.ld x0 (Rect.unit (s := S1024x6144) ![0, 2048] S1024x256.size inb_S1024x6144_S1024x256_0_2048)
  let v148 : Vec F S1x1x512 .f32 := View.ld x2 (Rect.unit (s := S1x48x512) ![0, 18, 0] S1x1x512.size inb_S1x48x512_S1x1x512_0_18_0)
  let v152 : Vec F S1x1x512 .f32 := View.ld x2 (Rect.unit (s := S1x48x512) ![0, 19, 0] S1x1x512.size inb_S1x48x512_S1x1x512_0_19_0)
  let v157 : Vec F S256x512 .fp8e4m3 := View.ld x1 (Rect.unit (s := S6144x512) ![2304, 0] S256x512.size inb_S6144x512_S256x512_2304_0)
  let v161 : Vec F S1024x256 .bf16 := View.ld x0 (Rect.unit (s := S1024x6144) ![0, 2304] S1024x256.size inb_S1024x6144_S1024x256_0_2304)
  let v164 : Vec F S1x1x512 .f32 := View.ld x2 (Rect.unit (s := S1x48x512) ![0, 20, 0] S1x1x512.size inb_S1x48x512_S1x1x512_0_20_0)
  let v168 : Vec F S1x1x512 .f32 := View.ld x2 (Rect.unit (s := S1x48x512) ![0, 21, 0] S1x1x512.size inb_S1x48x512_S1x1x512_0_21_0)
  let v173 : Vec F S256x512 .fp8e4m3 := View.ld x1 (Rect.unit (s := S6144x512) ![2560, 0] S256x512.size inb_S6144x512_S256x512_2560_0)
  let v163 := k0_pay14 v131 v135 v139 v141 v145 v148 v152 v157 v161
  let v174 := k0_pay15 v173
  let v175 := k0_pay16 v164 v168
  let v177 : Vec F S1024x256 .bf16 := View.ld x0 (Rect.unit (s := S1024x6144) ![0, 2560] S1024x256.size inb_S1024x6144_S1024x256_0_2560)
  let v180 : Vec F S1x1x512 .f32 := View.ld x2 (Rect.unit (s := S1x48x512) ![0, 22, 0] S1x1x512.size inb_S1x48x512_S1x1x512_0_22_0)
  let v184 : Vec F S1x1x512 .f32 := View.ld x2 (Rect.unit (s := S1x48x512) ![0, 23, 0] S1x1x512.size inb_S1x48x512_S1x1x512_0_23_0)
  let v189 : Vec F S256x512 .fp8e4m3 := View.ld x1 (Rect.unit (s := S6144x512) ![2816, 0] S256x512.size inb_S6144x512_S256x512_2816_0)
  let v193 : Vec F S1024x256 .bf16 := View.ld x0 (Rect.unit (s := S1024x6144) ![0, 2816] S1024x256.size inb_S1024x6144_S1024x256_0_2816)
  let v196 : Vec F S1x1x512 .f32 := View.ld x2 (Rect.unit (s := S1x48x512) ![0, 24, 0] S1x1x512.size inb_S1x48x512_S1x1x512_0_24_0)
  let v200 : Vec F S1x1x512 .f32 := View.ld x2 (Rect.unit (s := S1x48x512) ![0, 25, 0] S1x1x512.size inb_S1x48x512_S1x1x512_0_25_0)
  let v205 : Vec F S256x512 .fp8e4m3 := View.ld x1 (Rect.unit (s := S6144x512) ![3072, 0] S256x512.size inb_S6144x512_S256x512_3072_0)
  let v209 : Vec F S1024x256 .bf16 := View.ld x0 (Rect.unit (s := S1024x6144) ![0, 3072] S1024x256.size inb_S1024x6144_S1024x256_0_3072)
  let v195 := k0_pay17 v163 v174 v175 v177 v180 v184 v189 v193
  let v210 := k0_pay18 v196 v200 v205 v209
  let v212 : Vec F S1x1x512 .f32 := View.ld x2 (Rect.unit (s := S1x48x512) ![0, 26, 0] S1x1x512.size inb_S1x48x512_S1x1x512_0_26_0)
  let v216 : Vec F S1x1x512 .f32 := View.ld x2 (Rect.unit (s := S1x48x512) ![0, 27, 0] S1x1x512.size inb_S1x48x512_S1x1x512_0_27_0)
  let v221 : Vec F S256x512 .fp8e4m3 := View.ld x1 (Rect.unit (s := S6144x512) ![3328, 0] S256x512.size inb_S6144x512_S256x512_3328_0)
  let v225 : Vec F S1024x256 .bf16 := View.ld x0 (Rect.unit (s := S1024x6144) ![0, 3328] S1024x256.size inb_S1024x6144_S1024x256_0_3328)
  let v228 : Vec F S1x1x512 .f32 := View.ld x2 (Rect.unit (s := S1x48x512) ![0, 28, 0] S1x1x512.size inb_S1x48x512_S1x1x512_0_28_0)
  let v232 : Vec F S1x1x512 .f32 := View.ld x2 (Rect.unit (s := S1x48x512) ![0, 29, 0] S1x1x512.size inb_S1x48x512_S1x1x512_0_29_0)
  let v237 : Vec F S256x512 .fp8e4m3 := View.ld x1 (Rect.unit (s := S6144x512) ![3584, 0] S256x512.size inb_S6144x512_S256x512_3584_0)
  let v241 : Vec F S1024x256 .bf16 := View.ld x0 (Rect.unit (s := S1024x6144) ![0, 3584] S1024x256.size inb_S1024x6144_S1024x256_0_3584)
  let v244 : Vec F S1x1x512 .f32 := View.ld x2 (Rect.unit (s := S1x48x512) ![0, 30, 0] S1x1x512.size inb_S1x48x512_S1x1x512_0_30_0)
  let v243 := k0_pay19 v195 v210 v212 v216 v221 v225 v228 v232 v237 v241
  let v245 := k0_pay20 v244
  let v248 : Vec F S1x1x512 .f32 := View.ld x2 (Rect.unit (s := S1x48x512) ![0, 31, 0] S1x1x512.size inb_S1x48x512_S1x1x512_0_31_0)
  let v253 : Vec F S256x512 .fp8e4m3 := View.ld x1 (Rect.unit (s := S6144x512) ![3840, 0] S256x512.size inb_S6144x512_S256x512_3840_0)
  let v257 : Vec F S1024x256 .bf16 := View.ld x0 (Rect.unit (s := S1024x6144) ![0, 3840] S1024x256.size inb_S1024x6144_S1024x256_0_3840)
  let v260 : Vec F S1x1x512 .f32 := View.ld x2 (Rect.unit (s := S1x48x512) ![0, 32, 0] S1x1x512.size inb_S1x48x512_S1x1x512_0_32_0)
  let v264 : Vec F S1x1x512 .f32 := View.ld x2 (Rect.unit (s := S1x48x512) ![0, 33, 0] S1x1x512.size inb_S1x48x512_S1x1x512_0_33_0)
  let v269 : Vec F S256x512 .fp8e4m3 := View.ld x1 (Rect.unit (s := S6144x512) ![4096, 0] S256x512.size inb_S6144x512_S256x512_4096_0)
  let v273 : Vec F S1024x256 .bf16 := View.ld x0 (Rect.unit (s := S1024x6144) ![0, 4096] S1024x256.size inb_S1024x6144_S1024x256_0_4096)
  let v276 : Vec F S1x1x512 .f32 := View.ld x2 (Rect.unit (s := S1x48x512) ![0, 34, 0] S1x1x512.size inb_S1x48x512_S1x1x512_0_34_0)
  let v280 : Vec F S1x1x512 .f32 := View.ld x2 (Rect.unit (s := S1x48x512) ![0, 35, 0] S1x1x512.size inb_S1x48x512_S1x1x512_0_35_0)
  let v275 := k0_pay21 v243 v245 v248 v253 v257 v260 v264 v269 v273
  let v279 := k0_pay22 v276
  let v285 : Vec F S256x512 .fp8e4m3 := View.ld x1 (Rect.unit (s := S6144x512) ![4352, 0] S256x512.size inb_S6144x512_S256x512_4352_0)
  let v289 : Vec F S1024x256 .bf16 := View.ld x0 (Rect.unit (s := S1024x6144) ![0, 4352] S1024x256.size inb_S1024x6144_S1024x256_0_4352)
  let v292 : Vec F S1x1x512 .f32 := View.ld x2 (Rect.unit (s := S1x48x512) ![0, 36, 0] S1x1x512.size inb_S1x48x512_S1x1x512_0_36_0)
  let v296 : Vec F S1x1x512 .f32 := View.ld x2 (Rect.unit (s := S1x48x512) ![0, 37, 0] S1x1x512.size inb_S1x48x512_S1x1x512_0_37_0)
  let v301 : Vec F S256x512 .fp8e4m3 := View.ld x1 (Rect.unit (s := S6144x512) ![4608, 0] S256x512.size inb_S6144x512_S256x512_4608_0)
  let v305 : Vec F S1024x256 .bf16 := View.ld x0 (Rect.unit (s := S1024x6144) ![0, 4608] S1024x256.size inb_S1024x6144_S1024x256_0_4608)
  let v308 : Vec F S1x1x512 .f32 := View.ld x2 (Rect.unit (s := S1x48x512) ![0, 38, 0] S1x1x512.size inb_S1x48x512_S1x1x512_0_38_0)
  let v312 : Vec F S1x1x512 .f32 := View.ld x2 (Rect.unit (s := S1x48x512) ![0, 39, 0] S1x1x512.size inb_S1x48x512_S1x1x512_0_39_0)
  let v307 := k0_pay23 v275 v279 v280 v285 v289 v292 v296 v301 v305
  let v316 := k0_pay24 v308 v312
  let v317 : Vec F S256x512 .fp8e4m3 := View.ld x1 (Rect.unit (s := S6144x512) ![4864, 0] S256x512.size inb_S6144x512_S256x512_4864_0)
  let v321 : Vec F S1024x256 .bf16 := View.ld x0 (Rect.unit (s := S1024x6144) ![0, 4864] S1024x256.size inb_S1024x6144_S1024x256_0_4864)
  let v324 : Vec F S1x1x512 .f32 := View.ld x2 (Rect.unit (s := S1x48x512) ![0, 40, 0] S1x1x512.size inb_S1x48x512_S1x1x512_0_40_0)
  let v328 : Vec F S1x1x512 .f32 := View.ld x2 (Rect.unit (s := S1x48x512) ![0, 41, 0] S1x1x512.size inb_S1x48x512_S1x1x512_0_41_0)
  let v333 : Vec F S256x512 .fp8e4m3 := View.ld x1 (Rect.unit (s := S6144x512) ![5120, 0] S256x512.size inb_S6144x512_S256x512_5120_0)
  let v337 : Vec F S1024x256 .bf16 := View.ld x0 (Rect.unit (s := S1024x6144) ![0, 5120] S1024x256.size inb_S1024x6144_S1024x256_0_5120)
  let v340 : Vec F S1x1x512 .f32 := View.ld x2 (Rect.unit (s := S1x48x512) ![0, 42, 0] S1x1x512.size inb_S1x48x512_S1x1x512_0_42_0)
  let v344 : Vec F S1x1x512 .f32 := View.ld x2 (Rect.unit (s := S1x48x512) ![0, 43, 0] S1x1x512.size inb_S1x48x512_S1x1x512_0_43_0)
  let v349 : Vec F S256x512 .fp8e4m3 := View.ld x1 (Rect.unit (s := S6144x512) ![5376, 0] S256x512.size inb_S6144x512_S256x512_5376_0)
  let v339 := k0_pay25 v307 v316 v317 v321 v324 v328 v333 v337
  let v352 := k0_pay26 v340 v344 v349
  let v353 : Vec F S1024x256 .bf16 := View.ld x0 (Rect.unit (s := S1024x6144) ![0, 5376] S1024x256.size inb_S1024x6144_S1024x256_0_5376)
  let v356 : Vec F S1x1x512 .f32 := View.ld x2 (Rect.unit (s := S1x48x512) ![0, 44, 0] S1x1x512.size inb_S1x48x512_S1x1x512_0_44_0)
  let v360 : Vec F S1x1x512 .f32 := View.ld x2 (Rect.unit (s := S1x48x512) ![0, 45, 0] S1x1x512.size inb_S1x48x512_S1x1x512_0_45_0)
  let v365 : Vec F S256x512 .fp8e4m3 := View.ld x1 (Rect.unit (s := S6144x512) ![5632, 0] S256x512.size inb_S6144x512_S256x512_5632_0)
  let v369 : Vec F S1024x256 .bf16 := View.ld x0 (Rect.unit (s := S1024x6144) ![0, 5632] S1024x256.size inb_S1024x6144_S1024x256_0_5632)
  let v372 : Vec F S1x1x512 .f32 := View.ld x2 (Rect.unit (s := S1x48x512) ![0, 46, 0] S1x1x512.size inb_S1x48x512_S1x1x512_0_46_0)
  let v376 : Vec F S1x1x512 .f32 := View.ld x2 (Rect.unit (s := S1x48x512) ![0, 47, 0] S1x1x512.size inb_S1x48x512_S1x1x512_0_47_0)
  let v381 : Vec F S256x512 .fp8e4m3 := View.ld x1 (Rect.unit (s := S6144x512) ![5888, 0] S256x512.size inb_S6144x512_S256x512_5888_0)
  let v385 : Vec F S1024x256 .bf16 := View.ld x0 (Rect.unit (s := S1024x6144) ![0, 5888] S1024x256.size inb_S1024x6144_S1024x256_0_5888)
  let v387 := (k0_pay27 v339 v352 v353 v356 v360 v365 v369 v372 v376 v381 v385)
  v387

/-- The running maximum the body starts a tile from. -/
def startM (i : grid0.Coords) (xs0 : Vec F S1024x128 .f32) : Vec F S1024x128 .f32 := open Classical in if cond0_0 i then k0_pay3 else xs0
/-- The running sum the body starts a tile from. -/
def startS (i : grid0.Coords) (xs1 : Vec F S1024x128 .f32) : Vec F S1024x128 .f32 := open Classical in if cond0_0 i then k0_pay4 else xs1
/-- The running target logit the body starts a tile from. -/
def startT (i : grid0.Coords) (xs2 : Vec F S1024x128 .f32) : Vec F S1024x128 .f32 := open Classical in if cond0_0 i then k0_pay5 else xs2

/-- The maximum after a tile of logits `a`. -/
def stepM (j : BitVec 32) (a : FVec F S1024x512 .f32) (M : Vec F S1024x128 .f32) : FVec F S1024x128 .f32 :=
  k0_pay41 j a (k0_pay36 j a M) 512#32
/-- The sum after a tile of logits `a`. -/
def stepS (j : BitVec 32) (a : FVec F S1024x512 .f32) (M S : Vec F S1024x128 .f32) : FVec F S1024x128 .f32 :=
  k0_pay42 j a M (k0_pay30 j a) (k0_pay32 j a) (k0_pay34 j a) (k0_pay36 j a M) 512#32 S
/-- The target logit after a tile of logits `a`. -/
def stepT (j : BitVec 32) (a : FVec F S1024x512 .f32) (tgt : Vec F S1024x128 .i32) (T : Vec F S1024x128 .f32) : FVec F S1024x128 .f32 :=
  k0_pay1 (k0_pay39 j a (k0_pay28 tgt) (k0_pay35 j a tgt T) 512#32)

/-- The tile's number, as the body reads it from the grid. -/
abbrev tileNo (i : grid0.Coords) : BitVec 32 := BitVec.ofNat 32 (i 1).val

/-- The scratch and the output after the body, from the blocks and what they held before. -/
def endM (i : grid0.Coords) (x0 : Vec F S1024x6144 .bf16) (x1 : Vec F S6144x512 .fp8e4m3) (x2 : Vec F S1x48x512 .f32) (xs0 : Vec F S1024x128 .f32) : Vec F S1024x128 .f32 :=
  stepM (tileNo i) (accPay x0 x1 x2) (startM i xs0)
def endS (i : grid0.Coords) (x0 : Vec F S1024x6144 .bf16) (x1 : Vec F S6144x512 .fp8e4m3) (x2 : Vec F S1x48x512 .f32) (xs0 xs1 : Vec F S1024x128 .f32) : Vec F S1024x128 .f32 :=
  stepS (tileNo i) (accPay x0 x1 x2) (startM i xs0) (startS i xs1)
def endT (i : grid0.Coords) (x0 : Vec F S1024x6144 .bf16) (x1 : Vec F S6144x512 .fp8e4m3) (x2 : Vec F S1x48x512 .f32) (x3 : Vec F S1024x128 .i32) (xs2 : Vec F S1024x128 .f32) : Vec F S1024x128 .f32 :=
  stepT (tileNo i) (accPay x0 x1 x2) x3 (startT i xs2)
/-- What the output window's buffer holds after the body: the losses at the last tile, what it held elsewhere. -/
def endO (i : grid0.Coords) (x0 : Vec F S1024x6144 .bf16) (x1 : Vec F S6144x512 .fp8e4m3) (x2 : Vec F S1x48x512 .f32) (x3 : Vec F S1024x128 .i32) (xi4 xs0 xs1 xs2 : Vec F S1024x128 .f32) : Vec F S1024x128 .f32 :=
  open Classical in if cond0_1 i then k0_pay2 (endM i x0 x1 x2 xs0) (endS i x0 x1 x2 xs0 xs1) (endM i x0 x1 x2 xs0) (endT i x0 x1 x2 x3 xs2) else xi4

end Cert.KernelIdeal.Hand

end
-- ==== Proof.Ideal.Math.lean ====
/- Log-sum-exp over the extended reals, taken in pieces: a running maximum and a running sum rescaled at each new maximum
   end at the maximum and the sum of the whole, whatever the terms, the infinities among them. -/
module

public import Idealize.ShloMosaic.PureOps.Ideal

@[expose] public section

noncomputable section

namespace Cert.KernelIdeal.Math

open Idealize.ShloMosaic

/-- Changing the maximum a term is taken against, where the new maximum is the larger. -/
theorem exp_rescale (x m m' : EReal) (h1 : x ≤ m) (h2 : m ≤ m') :
    Ideal.exp (x - m) * Ideal.exp (m - m') = Ideal.exp (x - m') := by
  induction m' with
  | bot =>
    obtain rfl : m = ⊥ := le_bot_iff.mp h2
    obtain rfl : x = ⊥ := le_bot_iff.mp h1
    simp [sub_eq_add_neg]
  | top => simp [sub_eq_add_neg]
  | coe b =>
    induction m with
    | bot =>
      obtain rfl : x = ⊥ := le_bot_iff.mp h1
      simp [sub_eq_add_neg]
    | top => exact absurd h2 (by simp)
    | coe a =>
      induction x with
      | bot => simp [sub_eq_add_neg]
      | top => exact absurd h1 (by simp)
      | coe r =>
        rw [← EReal.coe_sub, ← EReal.coe_sub, ← EReal.coe_sub]
        change ((Real.exp (r - a) : ℝ) : EReal) * ((Real.exp (a - b) : ℝ) : EReal) = ((Real.exp (r - b) : ℝ) : EReal)
        rw [← EReal.coe_mul, ← Real.exp_add]; congr 2; ring

theorem exp_nonneg (x : EReal) : 0 ≤ Ideal.exp x := by
  induction x with
  | bot => exact le_refl _
  | top => exact le_top
  | coe r => exact EReal.coe_nonneg.mpr (Real.exp_pos r).le

/-- A sum of nonnegative terms times a factor, term by term. -/
theorem sum_mul {ι : Type*} (s : Finset ι) (f : ι → EReal) (hf : ∀ i ∈ s, 0 ≤ f i) (c : EReal) : (∑ i ∈ s, f i) * c = ∑ i ∈ s, f i * c := by
  classical
  induction s using Finset.induction_on with
  | empty => simp
  | insert a s ha ih =>
    rw [Finset.sum_insert ha, Finset.sum_insert ha, EReal.right_distrib_of_nonneg (hf a (Finset.mem_insert_self a s))
      (Finset.sum_nonneg fun i hi => hf i (Finset.mem_insert_of_mem hi)), ih fun i hi => hf i (Finset.mem_insert_of_mem hi)]

/-- A sum of exponentials taken against a bound of its terms, moved to a larger bound. -/
theorem sum_rescale {ι : Type*} (s : Finset ι) (x : ι → EReal) (m m' : EReal) (h1 : ∀ i ∈ s, x i ≤ m) (h2 : m ≤ m') :
    (∑ i ∈ s, Ideal.exp (x i - m)) * Ideal.exp (m - m') = ∑ i ∈ s, Ideal.exp (x i - m') := by
  rw [sum_mul s _ (fun i _ => exp_nonneg _)]
  exact Finset.sum_congr rfl fun i hi => exp_rescale _ _ _ (h1 i hi) h2

/-- The running maximum and sum of the first `n` terms, against that maximum. -/
def runMax (x : ℕ → EReal) (n : ℕ) : EReal := (Finset.range n).sup x
def runSum (x : ℕ → EReal) (n : ℕ) : EReal := ∑ q ∈ Finset.range n, Ideal.exp (x q - runMax x n)

theorem le_runMax (x : ℕ → EReal) {n q : ℕ} (h : q < n) : x q ≤ runMax x n := Finset.le_sup (Finset.mem_range.mpr h)
theorem runMax_zero (x : ℕ → EReal) : runMax x 0 = ⊥ := by simp [runMax]
theorem runSum_zero (x : ℕ → EReal) : runSum x 0 = 0 := by simp [runSum]
theorem runMax_succ (x : ℕ → EReal) (n : ℕ) : runMax x (n + 1) = max (runMax x n) (x n) := by
  unfold runMax; rw [Finset.range_add_one, Finset.sup_insert, sup_comm]
theorem runMax_mono (x : ℕ → EReal) {n n' : ℕ} (h : n ≤ n') : runMax x n ≤ runMax x n' := Finset.sup_mono (Finset.range_mono h)

/-- Four more terms into the maximum. -/
theorem runMax_four (x : ℕ → EReal) (n : ℕ) :
    runMax x (n + 4) = max (max (max (max (runMax x n) (x n)) (x (n + 1))) (x (n + 2))) (x (n + 3)) := by
  rw [show n + 4 = n + 3 + 1 from rfl, runMax_succ, show n + 3 = n + 2 + 1 from rfl, runMax_succ, show n + 2 = n + 1 + 1 from rfl, runMax_succ, runMax_succ]

/-- Four more terms into the sum: the old sum is moved to the new maximum. -/
theorem runSum_four (x : ℕ → EReal) (n : ℕ) :
    runSum x (n + 4) = runSum x n * Ideal.exp (runMax x n - runMax x (n + 4)) + Ideal.exp (x n - runMax x (n + 4))
      + Ideal.exp (x (n + 1) - runMax x (n + 4)) + Ideal.exp (x (n + 2) - runMax x (n + 4)) + Ideal.exp (x (n + 3) - runMax x (n + 4)) := by
  have h := sum_rescale (Finset.range n) x (runMax x n) (runMax x (n + 4)) (fun q hq => le_runMax x (Finset.mem_range.mp hq)) (runMax_mono x (by omega))
  unfold runSum
  rw [h]
  simp only [Finset.sum_range_succ, show n + 4 = n + 3 + 1 from rfl, show n + 3 = n + 2 + 1 from rfl, show n + 2 = n + 1 + 1 from rfl]

/-! ## The lanes put together -/

/-- Lane `l`'s terms: the columns `l`, `l + 128`, `l + 256`, … -/
def lane (y : ℕ → EReal) (l : ℕ) : ℕ → EReal := fun q => y (128 * q + l)

/-- A sum over columns, by lanes. -/
theorem sum_lanes (f : ℕ → EReal) (n : ℕ) : ∑ v ∈ Finset.range (128 * n), f v = ∑ l : Fin 128, ∑ q ∈ Finset.range n, f (128 * q + l.val) := by
  rw [Finset.sum_comm]
  induction n with
  | zero => simp
  | succ n ih =>
    rw [Finset.sum_range_succ, ← ih, show 128 * (n + 1) = 128 * n + 128 by ring, Finset.sum_range_add, Finset.sum_range (n := 128)]

/-- The maximum over columns, by lanes. -/
theorem max_lanes (y : ℕ → EReal) (n : ℕ) : (Finset.univ : Finset (Fin 128)).sup (fun l => runMax (lane y l.val) n) = runMax y (128 * n) := by
  apply le_antisymm
  · refine Finset.sup_le fun l _ => Finset.sup_le fun q hq => ?_
    have := Finset.mem_range.mp hq; have := l.isLt
    exact le_runMax y (show 128 * q + l.val < 128 * n by omega)
  · refine Finset.sup_le fun v hv => ?_
    have := Finset.mem_range.mp hv
    have h1 : v = 128 * (v / 128) + v % 128 := by omega
    have h2 : lane y (v % 128) (v / 128) = y v := by unfold lane; rw [← h1]
    rw [← h2]
    exact (le_runMax (lane y (v % 128)) (show v / 128 < n by omega)).trans
      (Finset.le_sup (f := fun l : Fin 128 => runMax (lane y l.val) n) (Finset.mem_univ (⟨v % 128, Nat.mod_lt _ (by decide)⟩ : Fin 128)))

/-- The lanes' sums, each moved to the maximum over all lanes, add up to the sum over all columns. -/
theorem sums_lanes (y : ℕ → EReal) (n : ℕ) :
    ∑ l : Fin 128, runSum (lane y l.val) n * Ideal.exp (runMax (lane y l.val) n - runMax y (128 * n))
      = ∑ v ∈ Finset.range (128 * n), Ideal.exp (y v - runMax y (128 * n)) := by
  rw [sum_lanes]
  refine Finset.sum_congr rfl fun l _ => ?_
  unfold runSum
  rw [sum_rescale _ (lane y l.val) _ _ (fun q hq => le_runMax _ (Finset.mem_range.mp hq))
    (by rw [← max_lanes]; exact Finset.le_sup (f := fun l : Fin 128 => runMax (lane y l.val) n) (Finset.mem_univ l))]
  rfl

/-! ## Columns past the last -/

/-- The terms below `N`, minus infinity from there on. -/
def cutAt (N : ℕ) (y : Fin N → EReal) : ℕ → EReal := fun v => if h : v < N then y ⟨v, h⟩ else ⊥

theorem cutAt_val (N : ℕ) (y : Fin N → EReal) (v : Fin N) : cutAt N y v.val = y v := by simp [cutAt]

theorem runMax_cutAt (N K : ℕ) (hK : N ≤ K) (y : Fin N → EReal) : runMax (cutAt N y) K = (Finset.univ : Finset (Fin N)).sup y := by
  apply le_antisymm
  · refine Finset.sup_le fun v _ => ?_
    unfold cutAt; split
    · exact Finset.le_sup (Finset.mem_univ _)
    · exact bot_le
  · refine Finset.sup_le fun v _ => ?_
    rw [← cutAt_val N y v]; exact le_runMax _ (lt_of_lt_of_le v.isLt hK)

theorem sum_cutAt (N K : ℕ) (hK : N ≤ K) (y : Fin N → EReal) (m : EReal) :
    ∑ v ∈ Finset.range K, Ideal.exp (cutAt N y v - m) = ∑ v : Fin N, Ideal.exp (y v - m) := by
  obtain ⟨d, rfl⟩ := Nat.exists_eq_add_of_le hK
  rw [Finset.sum_range_add, Finset.sum_range]
  have h : ∀ i ∈ Finset.range d, Ideal.exp (cutAt N y (N + i) - m) = 0 := fun i _ => by
    have : cutAt N y (N + i) = ⊥ := by unfold cutAt; rw [dif_neg (by omega)]
    rw [this, sub_eq_add_neg, EReal.bot_add]; rfl
  rw [Finset.sum_eq_zero h, add_zero]
  exact Finset.sum_congr rfl fun v _ => by rw [cutAt_val]

/-- A fold of maxima from minus infinity is the supremum. -/
theorem fold_max {ι : Type*} (s : Finset ι) (f : ι → EReal) : s.fold max ⊥ f = s.sup f := rfl

/-! ## The target's term -/

/-- What a lane has of the target's term after `n` of its columns. -/
def hit (y : ℕ → EReal) (t l n : ℕ) : EReal := if t % 128 = l ∧ t / 128 < n then y t else 0

theorem hit_succ (y : ℕ → EReal) (t l n : ℕ) (hl : l < 128) : hit y t l (n + 1) = if 128 * n + l = t then y (128 * n + l) else hit y t l n := by
  unfold hit
  by_cases h : 128 * n + l = t
  · rw [if_pos h, if_pos (by omega), h]
  · rw [if_neg h]; congr 1; apply propext; omega

theorem hit_zero (y : ℕ → EReal) (t l : ℕ) : hit y t l 0 = 0 := by simp [hit]

/-- Over all lanes: the target's term. -/
theorem hit_lanes (y : ℕ → EReal) (t n : ℕ) (h : t < 128 * n) : ∑ l : Fin 128, hit y t l.val n = y t := by
  rw [Finset.sum_eq_single (⟨t % 128, Nat.mod_lt _ (by decide)⟩ : Fin 128)]
  · unfold hit; rw [if_pos ⟨rfl, by omega⟩]
  · intro l _ hl
    unfold hit; rw [if_neg]; rintro ⟨h', _⟩; exact hl (Fin.ext h'.symm)
  · intro h'; exact absurd (Finset.mem_univ _) h'

/-- A logit: a row of activations against a column of codes, each code times the scale of its 128 rows. -/
def logitOf (y w : Fin 6144 → EReal) (s : Fin 48 → EReal) : EReal := ∑ K : Fin 6144, y K * (w K * s ⟨K.val / 128, by omega⟩)

/-- The loss of a row of logits: log-sum-exp less the target's logit less a constant. -/
def loss (N : ℕ) (y : Fin N → EReal) (t : Fin N) (k : EReal) : EReal :=
  Ideal.log (∑ v, Ideal.exp (y v - Finset.univ.sup y)) + Finset.univ.sup y - y t - k

/-- The lanes' maxima, sums and target terms give the loss. -/
theorem loss_of_lanes (N n : ℕ) (hN : N ≤ 128 * n) (y : Fin N → EReal) (t : Fin N) (k : EReal) :
    Ideal.log (∑ l : Fin 128, runSum (lane (cutAt N y) l.val) n * Ideal.exp (runMax (lane (cutAt N y) l.val) n
        - (Finset.univ : Finset (Fin 128)).sup (fun l => runMax (lane (cutAt N y) l.val) n)))
      + (Finset.univ : Finset (Fin 128)).sup (fun l => runMax (lane (cutAt N y) l.val) n)
      - ∑ l : Fin 128, hit (cutAt N y) t.val l.val n - k = loss N y t k := by
  unfold loss
  rw [max_lanes, sums_lanes, runMax_cutAt N _ hN, sum_cutAt N _ hN, hit_lanes _ _ _ (lt_of_lt_of_le t.isLt hN), cutAt_val]

end Cert.KernelIdeal.Math

end
-- ==== Proof.Ideal.Cols.lean ====
/- The running maximum, sum and target logit after a tile, element by element, over the extended reals. -/
module

public import proofs.«01_k».proof.Proof.Ideal.Step
public import proofs.«01_k».proof.Proof.Ideal.Math
public import Idealize.ShloMosaic.Lib.Pointwise
public import Idealize.ShloMosaic.PureOps.IdealRules

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- The mask, over the extended reals. -/
theorem mask_bot : (Named.named κ "mask" 0xFF61B1E6#32 : Ideal .f32) = ⊥ := IdealRules.named_const.ideal_named_scalar _ _ _ _ rfl

theorem pay3_apply (r : Fin 1024) (l : Fin 128) : k0_pay3 (F := Ideal) (ix2 r l) = ⊥ := by
  unfold_payloads
  pointwise []
  exact mask_bot
theorem pay4_apply (r : Fin 1024) (l : Fin 128) : k0_pay4 (F := Ideal) (ix2 r l) = 0 := by
  unfold_payloads
  pointwise []
theorem pay5_apply (r : Fin 1024) (l : Fin 128) : k0_pay5 (F := Ideal) (ix2 r l) = 0 := by
  unfold_payloads
  pointwise []

/-- A column's number, as the body computes it: tile `j`, group `k` of four, lane `l`. -/
theorem col_toNat (j : ℕ) (hj : j < 99) (k : ℕ) (hk : k < 512) (l : Fin 128) :
    (IntOp.addi (Scalar.addi (Scalar.muli (BitVec.ofNat 32 j) 512#32) (BitVec.ofNat 32 k)) (BitVec.ofNat 32 l.val)).toNat = 512 * j + k + l.val := by
  have := l.isLt
  simp only [IntOp.addi, Scalar.addi, Scalar.muli, IntOp.muli, BitVec.toNat_add, BitVec.toNat_mul, BitVec.toNat_ofNat]
  omega

/-- Which columns the body keeps. -/
theorem keep (j : ℕ) (hj : j < 99) (k : ℕ) (hk : k < 512) (l : Fin 128) (a b : EReal) :
    Scalar.select (IntOp.cmpi CmpIPredicate.slt (IntOp.addi (Scalar.addi (Scalar.muli (BitVec.ofNat 32 j) 512#32) (BitVec.ofNat 32 k)) (BitVec.ofNat 32 l.val)) 50304#32) a b
      = if 512 * j + k + l.val < 50304 then a else b := by
  have h := col_toNat j hj k hk l
  generalize IntOp.addi (Scalar.addi (Scalar.muli (BitVec.ofNat 32 j) 512#32) (BitVec.ofNat 32 k)) (BitVec.ofNat 32 l.val) = w at h ⊢
  have := l.isLt
  have e : w.slt 50304#32 = decide (512 * j + k + l.val < 50304) := by
    rw [← h]; rw [Bool.eq_iff_iff]; simp only [decide_eq_true_eq, BitVec.slt]
    have h2 : w.toInt = w.toNat := BitVec.toInt_eq_toNat_of_lt (by omega)
    rw [h2]; simp
  unfold IntOp.cmpi
  simp only [e]
  by_cases hlt : 512 * j + k + l.val < 50304 <;> simp [hlt, Scalar.select]

/-- Which column is the target's. -/
theorem isTarget (j : ℕ) (hj : j < 99) (k : ℕ) (hk : k < 512) (l : Fin 128) (t : BitVec 32) (a b : EReal) :
    Scalar.select (IntOp.cmpi CmpIPredicate.eq (IntOp.addi (Scalar.addi (Scalar.muli (BitVec.ofNat 32 j) 512#32) (BitVec.ofNat 32 k)) (BitVec.ofNat 32 l.val)) t) a b
      = if 512 * j + k + l.val = t.toNat then a else b := by
  have h := col_toNat j hj k hk l
  generalize IntOp.addi (Scalar.addi (Scalar.muli (BitVec.ofNat 32 j) 512#32) (BitVec.ofNat 32 k)) (BitVec.ofNat 32 l.val) = w at h ⊢
  rw [← h]
  unfold IntOp.cmpi
  by_cases e : w = t
  · subst e; simp [Scalar.select]
  · have e' : ¬ w.toNat = t.toNat := fun h' => e (BitVec.eq_of_toNat_eq h')
    have e'' : (w == t) = false := by simpa using e
    simp [e', e'', Scalar.select]

/-- The tile's logit in column `k` of the row, minus infinity where the column is past the last. -/
def mlg (j : ℕ) (a : FVec Ideal S1024x512 .f32) (r : Fin 1024) (k : ℕ) (l : Fin 128) (hk : k + l.val < 512) : EReal :=
  if 512 * j + k + l.val < 50304 then a (ix2 r ⟨k + l.val, hk⟩) else ⊥

theorem stepM_apply (j : ℕ) (hj : j < 99) (a : FVec Ideal S1024x512 .f32) (M : Vec Ideal S1024x128 .f32) (r : Fin 1024) (l : Fin 128) :
    stepM (F := Ideal) (BitVec.ofNat 32 j) a M (ix2 r l) = max (max (max (max (M (ix2 r l)) (mlg j a r 0 l (by omega))) (mlg j a r 128 l (by omega)))
      (mlg j a r 256 l (by omega))) (mlg j a r 384 l (by omega)) := by
  unfold stepM
  unfold_payloads
  pointwise []
  simp only [mask_bot, keep j hj 0 (by omega) l, keep j hj 128 (by omega) l, keep j hj 256 (by omega) l, keep j hj 384 (by omega) l, mlg, Nat.zero_add]

theorem stepS_apply (j : ℕ) (hj : j < 99) (a : FVec Ideal S1024x512 .f32) (M S : Vec Ideal S1024x128 .f32) (r : Fin 1024) (l : Fin 128) (M' : EReal)
    (hM' : stepM (F := Ideal) (BitVec.ofNat 32 j) a M (ix2 r l) = M') :
    stepS (F := Ideal) (BitVec.ofNat 32 j) a M S (ix2 r l) = S (ix2 r l) * Ideal.exp (M (ix2 r l) - M') + Ideal.exp (mlg j a r 0 l (by omega) - M')
      + Ideal.exp (mlg j a r 128 l (by omega) - M') + Ideal.exp (mlg j a r 256 l (by omega) - M') + Ideal.exp (mlg j a r 384 l (by omega) - M') := by
  rw [← hM', stepM_apply j hj]
  unfold stepS
  unfold_payloads
  pointwise []
  simp only [mask_bot, keep j hj 0 (by omega) l, keep j hj 128 (by omega) l, keep j hj 256 (by omega) l, keep j hj 384 (by omega) l, mlg, Nat.zero_add]

theorem stepT_apply (j : ℕ) (hj : j < 99) (a : FVec Ideal S1024x512 .f32) (tgt : Vec Ideal S1024x128 .i32) (T : Vec Ideal S1024x128 .f32) (r : Fin 1024) (l : Fin 128) :
    stepT (F := Ideal) (BitVec.ofNat 32 j) a tgt T (ix2 r l) =
      if 512 * j + 384 + l.val = (tgt (ix2 r l)).toNat then mlg j a r 384 l (by omega) else
      if 512 * j + 256 + l.val = (tgt (ix2 r l)).toNat then mlg j a r 256 l (by omega) else
      if 512 * j + 128 + l.val = (tgt (ix2 r l)).toNat then mlg j a r 128 l (by omega) else
      if 512 * j + 0 + l.val = (tgt (ix2 r l)).toNat then mlg j a r 0 l (by omega) else T (ix2 r l) := by
  unfold stepT
  unfold_payloads
  pointwise []
  simp only [mask_bot, keep j hj 0 (by omega) l, keep j hj 128 (by omega) l, keep j hj 256 (by omega) l, keep j hj 384 (by omega) l,
    isTarget j hj 0 (by omega) l, isTarget j hj 128 (by omega) l, isTarget j hj 256 (by omega) l, isTarget j hj 384 (by omega) l, mlg, Nat.zero_add, Nat.add_zero]

/-- The losses a row block ends with, from its scratch. -/
theorem pay2_apply (M S T : Vec Ideal S1024x128 .f32) (r : Fin 1024) (l : Fin 128) :
    k0_pay2 (F := Ideal) M S M T (ix2 r l) =
      Ideal.log (∑ x : Fin 128, S (ix2 r x) * Ideal.exp (M (ix2 r x) - (Finset.univ : Finset (Fin 128)).sup fun x => M (ix2 r x)))
        + ((Finset.univ : Finset (Fin 128)).sup fun x => M (ix2 r x)) - (∑ x : Fin 128, T (ix2 r x)) - Ideal.ofBits .f32 0x412D36A4#32 := by
  unfold_payloads
  pointwise []
  have h : Ideal.ofBits .f32 0xFF800000#32 = ⊥ := by
    simp [Ideal.ofBits, Ideal.ieee]
  simp only [h, Math.fold_max]

end Cert.KernelIdeal.Hand

end
-- ==== Proof.Ideal.Run.lean ====
/- The body, run: what each load reads is known, so what it leaves in the scratch and the output is the value
   `Step` names. -/
module

public import proofs.«01_k».proof.Proof.Ideal.Step
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The stored maximum is `endM`: the loads it was formed from read the logits `A` and the starting maximum `M`. -/
theorem endM_of (i : grid0.Coords) (x0 : Vec F S1024x6144 .bf16) (x1 : Vec F S6144x512 .fp8e4m3) (x2 : Vec F S1x48x512 .f32) (xs0 : Vec F S1024x128 .f32)
    {A : FVec F S1024x512 .f32} {M : Vec F S1024x128 .f32} (hA : A = accPay x0 x1 x2) (hM : M = startM i xs0) :
    k0_pay41 (tileNo i) A (k0_pay36 (tileNo i) A M) 512#32 = endM i x0 x1 x2 xs0 := by subst hA hM; rfl
/-- The stored sum is `endS`. -/
theorem endS_of (i : grid0.Coords) (x0 : Vec F S1024x6144 .bf16) (x1 : Vec F S6144x512 .fp8e4m3) (x2 : Vec F S1x48x512 .f32) (xs0 xs1 : Vec F S1024x128 .f32)
    {A : FVec F S1024x512 .f32} {M S : Vec F S1024x128 .f32} (hA : A = accPay x0 x1 x2) (hM : M = startM i xs0) (hS : S = startS i xs1) :
    k0_pay42 (tileNo i) A M (k0_pay30 (tileNo i) A) (k0_pay32 (tileNo i) A) (k0_pay34 (tileNo i) A) (k0_pay36 (tileNo i) A M) 512#32 S = endS i x0 x1 x2 xs0 xs1 := by
  subst hA hM hS; rfl
/-- The stored target logit is `endT`. -/
theorem endT_of (i : grid0.Coords) (x0 : Vec F S1024x6144 .bf16) (x1 : Vec F S6144x512 .fp8e4m3) (x2 : Vec F S1x48x512 .f32) (x3 : Vec F S1024x128 .i32) (xs2 : Vec F S1024x128 .f32)
    {A : FVec F S1024x512 .f32} {G : Vec F S1024x128 .i32} {T : Vec F S1024x128 .f32} (hA : A = accPay x0 x1 x2) (hG : G = x3) (hT : T = startT i xs2) :
    k0_pay1 (k0_pay39 (tileNo i) A (k0_pay28 G) (k0_pay35 (tileNo i) A G T) 512#32) = endT i x0 x1 x2 x3 xs2 := by
  subst hA hG hT; rfl
/-- The stored losses are `endO` at the last tile. -/
theorem endO_of (i : grid0.Coords) (x0 : Vec F S1024x6144 .bf16) (x1 : Vec F S6144x512 .fp8e4m3) (x2 : Vec F S1x48x512 .f32) (x3 : Vec F S1024x128 .i32) (xi4 xs0 xs1 xs2 : Vec F S1024x128 .f32) (hc1 : cond0_1 i)
    {M S T : Vec F S1024x128 .f32} (hM : M = endM i x0 x1 x2 xs0) (hS : S = endS i x0 x1 x2 xs0 xs1) (hT : T = endT i x0 x1 x2 x3 xs2) :
    k0_pay2 M S M T = endO i x0 x1 x2 x3 xi4 xs0 xs1 xs2 := by
  subst hM hS hT; exact (if_pos hc1).symm

set_option maxHeartbeats 4000000 in
/-- The body, run on whole staging memrefs and the scratch at known contents: the inputs are left as they were, and the
    scratch and the output hold what the body computes from them (`endM`, `endS`, `endT`, `endO`). The four cases of its
    two conditions run by the same steps. -/
theorem run_body (c : Dev nD) (i : grid0.Coords) (arg2 : Memref sig .tc .vmem S1024x6144 .bf16) (harg2 : arg2.IsWhole) (arg3 : Memref sig .tc .vmem S6144x512 .fp8e4m3) (harg3 : arg3.IsWhole) (arg4 : Memref sig .tc .vmem S1x48x512 .f32) (harg4 : arg4.IsWhole) (arg5 : Memref sig .tc .vmem S1024x128 .i32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (x0 : Vec F S1024x6144 .bf16) (x1 : Vec F S6144x512 .fp8e4m3) (x2 : Vec F S1x48x512 .f32) (x3 : Vec F S1024x128 .i32) (xi4 : Vec F S1024x128 .f32) (xs0 : Vec F S1024x128 .f32) (xs1 : Vec F S1024x128 .f32) (xs2 : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1 ∗ owns (c : Thread nD τ) arg9 fullShare xs2 ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (endO i x0 x1 x2 x3 xi4 xs0 xs1 xs2) ∗ owns (c : Thread nD τ) arg7 fullShare (endM i x0 x1 x2 xs0) ∗ owns (c : Thread nD τ) arg8 fullShare (endS i x0 x1 x2 xs0 xs1) ∗ owns (c : Thread nD τ) arg9 fullShare (endT i x0 x1 x2 x3 xs2)) -∗ K ⟨⟩))
      ⊢ wp frame (wpE (defs₀ (F := F)) Variants.none c none) E (cc0_head i arg2 harg2 arg3 harg3 arg4 harg4 arg5 harg5 arg6 harg6 arg7 harg7 arg8 harg8 arg9 harg9) K := by
  by_cases hc0 : cond0_0 i <;> by_cases hc1 : cond0_1 i
  all_goals
    simp only [cc0_head_eq_skeleton]; unfold cc0_head_skel
    simp only [k0_part13_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    subst hf0; subst hf1; subst hf2; subst hf3; subst hf4; subst hfs0; subst hfs1; subst hfs2
    sl_exec (disch := first | sl_exact hc0 | sl_exact hc1)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr
      swap; iexact H4
      ipureintro
      first
      | exact (if_neg hc1).symm
      | exact (View.read_writes_full _ _ _ _ _).trans (endO_of i _ _ _ _ _ _ _ _ hc1 ((View.readCov_full _ _ _ _ _).trans (endM_of i _ _ _ _ rfl (by first | exact (View.readAt_full _ _ _).trans (if_neg hc0).symm | exact (View.readCov_full _ _ _ _ _).trans (if_pos hc0).symm))) ((View.readCov_full _ _ _ _ _).trans (endS_of i _ _ _ _ _ rfl (by first | exact (View.readAt_full _ _ _).trans (if_neg hc0).symm | exact (View.readCov_full _ _ _ _ _).trans (if_pos hc0).symm) (by first | exact (View.readAt_full _ _ _).trans (if_neg hc0).symm | exact (View.readCov_full _ _ _ _ _).trans (if_pos hc0).symm))) ((View.readCov_full _ _ _ _ _).trans (endT_of i _ _ _ _ _ rfl (View.readAt_full _ _ _) (by first | exact (View.readAt_full _ _ _).trans (if_neg hc0).symm | exact (View.readCov_full _ _ _ _ _).trans (if_pos hc0).symm))))
    isplitl [HS0]
    · iexists _; isplitr
      swap; iexact HS0
      ipureintro
      exact (View.read_writes_full _ _ _ _ _).trans (endM_of i _ _ _ _ rfl (by first | exact (View.readAt_full _ _ _).trans (if_neg hc0).symm | exact (View.readCov_full _ _ _ _ _).trans (if_pos hc0).symm))
    isplitl [HS1]
    · iexists _; isplitr
      swap; iexact HS1
      ipureintro
      exact (View.read_writes_full _ _ _ _ _).trans (endS_of i _ _ _ _ _ rfl (by first | exact (View.readAt_full _ _ _).trans (if_neg hc0).symm | exact (View.readCov_full _ _ _ _ _).trans (if_pos hc0).symm) (by first | exact (View.readAt_full _ _ _).trans (if_neg hc0).symm | exact (View.readCov_full _ _ _ _ _).trans (if_pos hc0).symm))
    iexists _; isplitr
    swap; iexact HS2
    ipureintro
    exact (View.read_writes_full _ _ _ _ _).trans (endT_of i _ _ _ _ _ rfl (View.readAt_full _ _ _) (by first | exact (View.readAt_full _ _ _).trans (if_neg hc0).symm | exact (View.readCov_full _ _ _ _ _).trans (if_pos hc0).symm))

end Cert.KernelIdeal.Hand

end
-- ==== Proof.Ideal.Frame.lean ====
/- The run of the whole program from what one run of the body does: a relation `I` on the scratch that the body keeps
   from point to point, and the blocks `O` it leaves at the last tiles. -/
module

public import proofs.«01_k».proof.Proof.Ideal.Run

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What fills a clipped block's part past the array's end where some contents must be named: zeros. No claim reads it. -/
abbrev filler1 : S6144x512.Idx → Elt F .fp8e4m3 := fun _ => Scalar.ofBits .fp8e4m3 0#8
abbrev filler2 : S1x48x512.Idx → Elt F .f32 := fun _ => Scalar.ofBits .f32 0#32

variable (I : Dev nD → ℕ → Vec F S1024x128 .f32 → Vec F S1024x128 .f32 → Vec F S1024x128 .f32 → Prop)
variable (O : Dev nD → Fin cfg0.N → Vec F S1024x128 .f32)

/-- The scratch held at contents of which `I` is known, and the generator at some state. -/
def PhiI (c : Dev nD) (n : ℕ) : sProp 𝕄 :=
  iprop(iprop(∃ M, ∃ S, ∃ T, ⌜I c n M S T⌝ ∗ owns (c : Thread nD τ) scM0_0 fullShare M ∗ owns (c : Thread nD τ) scM0_1 fullShare S ∗ owns (c : Thread nD τ) scM0_2 fullShare T) ∗ (∃ r, prngReg c r))

/-- The proof data: the arrays as the region finds them, each input's block left in place, the output's block `O` at the
    last tile; the scratch as `I` says between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) filler1 (iblk m c 1 t)
    | ⟨2, _⟩ => win0_2.fill (grid0.coords t) filler2 (iblk m c 2 t)
    | ⟨3, _⟩ => iblk m c 3 t
    | ⟨4, _⟩ => O c t
  Φ t := PhiI I c t.val
  q _ := fullShare
  owed _ := 0

/-- What one run of the body must do for `I` to hold throughout and `O` to be what is written back. -/
structure Steps : Prop where
  /-- Nothing is known before the first tile of a row block. -/
  first : ∀ c n M S T, n % 99 = 0 → I c n M S T
  /-- The body takes what is known before a point to what is known after it, whatever fills the clipped blocks. -/
  step : ∀ c (t : Fin cfg0.N) d1 d2 M S T, I c t.val M S T →
    I c (t.val + 1)
      (endM (grid0.coords t) (iblk m c 0 t) (win0_1.fill (grid0.coords t) d1 (iblk m c 1 t)) (win0_2.fill (grid0.coords t) d2 (iblk m c 2 t)) M)
      (endS (grid0.coords t) (iblk m c 0 t) (win0_1.fill (grid0.coords t) d1 (iblk m c 1 t)) (win0_2.fill (grid0.coords t) d2 (iblk m c 2 t)) M S)
      (endT (grid0.coords t) (iblk m c 0 t) (win0_1.fill (grid0.coords t) d1 (iblk m c 1 t)) (win0_2.fill (grid0.coords t) d2 (iblk m c 2 t)) (iblk m c 3 t) T)
  /-- At the last tile the body leaves `O`. -/
  out : ∀ c (t : Fin cfg0.N) d1 d2 d4 M S T, I c t.val M S T → t.val % 99 = 98 →
    endO (grid0.coords t) (iblk m c 0 t) (win0_1.fill (grid0.coords t) d1 (iblk m c 1 t)) (win0_2.fill (grid0.coords t) d2 (iblk m c 2 t)) (iblk m c 3 t) d4 M S T = O c t

theorem A_eq (c : Dev nD) (w : Fin cfg0.W) : (dats m I O 0 c).A w = V m c (Pipeline.arrRef spec0 w) := by dsimp only [dats]

theorem before0_0 (c : Dev nD) (t : Fin cfg0.N) (d) : (dats m I O 0 c).before 0 t d = iblk m c 0 t :=
  before0_0_of m (dats m I O 0 c) (A_eq m I O c 0) (fun _ => rfl) t d
theorem before0_3 (c : Dev nD) (t : Fin cfg0.N) (d) : (dats m I O 0 c).before 3 t d = iblk m c 3 t :=
  before0_3_of m (dats m I O 0 c) (A_eq m I O c 3) (fun _ => rfl) t d
theorem before0_1 (c : Dev nD) (t : Fin cfg0.N) (d) : (dats m I O 0 c).before 1 t d = win0_1.fill (grid0.coords t) d (iblk m c 1 t) := by
  unfold Dat.before; rw [if_pos (fetch0_1 t)]; rfl
theorem before0_2 (c : Dev nD) (t : Fin cfg0.N) (d) : (dats m I O 0 c).before 2 t d = win0_2.fill (grid0.coords t) d (iblk m c 2 t) := by
  unfold Dat.before; rw [if_pos (fetch0_2 t)]; rfl

/-- The body table's row at point `t`'s slots is the body as `bodyAt0` spells it. -/
theorem defs₀_row (t : Fin cfg0.N) : defs₀ (F := F) .tc cfg0.body (cfg0.bodyArgs t (cfg0.slots t)) = bodyAt0 t := by
  unfold defs₀; rw [Defs.onTc_tc]

/-- Away from the last tile the output window is idle and is not written back. -/
theorem idle4 (t : Fin cfg0.N) (h : ¬t.val % 99 = 98) : cfg0.idle 4 (grid0.coords t) = true ∧ (cfg0.win 4).flush t = false := by
  have h1 : ¬cond0_1 (grid0.coords t) := fun h' => h ((hcond0_1 t).mp h')
  by_cases h0 : cond0_0 (grid0.coords t)
  · exact ⟨idleAt0_4_A t h0 h1, noFlush0_4_A t h0 h1⟩
  · exact ⟨idleAt0_4_B t h0 h1, noFlush0_4_B t h0 h1⟩
/-- At the last tile it is not. -/
theorem live4 (t : Fin cfg0.N) (h : t.val % 99 = 98) : cfg0.idle 4 (grid0.coords t) = false :=
  liveAt0_4_C t (fun h0 => by have := (hcond0_0 t).mp h0; omega) ((hcond0_1 t).mpr h)

/-- What the body leaves in the output window's buffer, as the obligation asks it. -/
theorem leaves4 (c : Dev nD) (t : Fin cfg0.N) (d4 X : Vec F S1024x128 .f32) (hX : X = if t.val % 99 = 98 then O c t else (dats m I O 0 c).before 4 t d4) :
    owns (c : Thread nD τ) (ms0_4 t) fullShare X ⊢ ((dats m I O 0 c).leaves 4 t : sProp 𝕄) := by
  by_cases h : t.val % 99 = 98
  · rw [if_pos h] at hX
    unfold Dat.leaves; rw [live4 t h]
    subst hX
    iintro H; iexact H
  · rw [if_neg h] at hX
    rw [Dat.leaves_idle (dats m I O 0 c) 4 t (idle4 t h).1 (idle4 t h).2]
    subst hX
    iintro H; iexists d4; iexact H

set_option maxHeartbeats 2000000 in
theorem body_obligation (hI : Steps m I O) (c : Dev nD) : BodyObligationLoose (dats m I O 0 c) (defs₀ (F := F)) Variants.none () Set.univ := fun t => by
  rw [bigSep_W0, bigSep_W0, defs₀_row]
  simp only
  rw [show (dats m I O 0 c).Φ t.succ = PhiI I c (t.val + 1) from rfl,
    show (dats m I O 0 c).owesAt () t.succ = (dats m I O 0 c).owesAt () t.castSucc from rfl,
    show (dats m I O 0 c).Φ t.castSucc = PhiI I c t.val from rfl]
  unfold bodyAt0 PhiI
  iintro ⟨⟨⟨%s0, %s1, %s2, %hs, HS0, HS1, HS2⟩, Hg⟩, Ho, ⟨%d0, H0⟩, ⟨%d1, H1⟩, ⟨%d2, H2⟩, ⟨%d3, H3⟩, ⟨%d4, H4⟩⟩
  rw [before0_0 m I O c t d0, before0_1 m I O c t d1, before0_2 m I O c t d2, before0_3 m I O c t d3]
  iapply (run_body c (grid0.coords t) _ _ _ _ _ _ _ _ _ _ _ _ _ _ _ _ (iblk m c 0 t) (win0_1.fill (grid0.coords t) d1 (iblk m c 1 t)) (win0_2.fill (grid0.coords t) d2 (iblk m c 2 t)) (iblk m c 3 t) ((dats m I O 0 c).before 4 t d4) s0 s1 s2 Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  iintro ⟨H0, H1, H2, H3, H4, HS0, HS1, HS2⟩
  isplitl [HS0 HS1 HS2 Hg]
  · isplitl [HS0 HS1 HS2]
    · iexists _; iexists _; iexists _
      isplitr
      · ipureintro; exact hI.step c t d1 d2 s0 s1 s2 hs
      isplitl [HS0]; · iexact HS0
      isplitl [HS1]; · iexact HS1
      iexact HS2
    iexact Hg
  isplitl [Ho]; · iexact Ho
  have h1 : win0_1.cut (grid0.coords t) ((dats m I O 0 c).after 1 t) = iblk m c 1 t := win0_1.cut_fill _ _ _
  have h2 : win0_2.cut (grid0.coords t) ((dats m I O 0 c).after 2 t) = iblk m c 2 t := win0_2.cut_fill _ _ _
  isplitl [H0]; · iexact H0
  isplitl [H1]
  · iexists d1
    change _ ⊢ owns (c : Thread nD τ) (ms0_1 t) fullShare (win0_1.fill (grid0.coords t) d1 (win0_1.cut (grid0.coords t) ((dats m I O 0 c).after 1 t)))
    rw [h1]; try iexact H1
  isplitl [H2]
  · iexists d2
    change _ ⊢ owns (c : Thread nD τ) (ms0_2 t) fullShare (win0_2.fill (grid0.coords t) d2 (win0_2.cut (grid0.coords t) ((dats m I O 0 c).after 2 t)))
    rw [h2]; try iexact H2
  isplitl [H3]; · iexact H3
  change _ ⊢ (dats m I O 0 c).leaves 4 t
  refine leaves4 m I O c t d4 _ ?_
  by_cases h : t.val % 99 = 98
  · exact (hI.out c t d1 d2 _ s0 s1 s2 hs h).trans (if_pos h).symm
  · exact (if_neg fun h' => h ((hcond0_1 t).mp h')).trans (if_neg h).symm

-- the library theorem's implicit arguments are found by unifying its conclusion with this statement
set_option backward.isDefEq.respectTransparency.types false in
/-- Every weakly fair execution of the program ends; the result is what the blocks `O` make it, every other buffer ends as the
    region found it, and every semaphore counter at zero. -/
theorem run_main (hI : Steps m I O) :
    θ_run defs (onTc (τ := τ) (main (F := F))) (s₀ m ρ)
      (fun r => Pipeline.FramePost cfgs (dats m I O) 0 (V m) r ∧ r.2.sem = fun _ => 0) :=
  Pipeline.θ_run_frame_track (Q' := _) cfgs (dats m I O) (0 : Fin 1) launch0 defs₀ Variants.none m ρ main
    (hbody := body_obligation m I O hI) (hshare := fun c => (dats m I O 0 c).share_full fun _ => rfl)
    (howed := fun _ _ => rfl) (V := V m) (hmain := hmain m Variants.none) (hA := A_eq m I O)
    (hin := fun c => by
      rw [show (dats m I O 0 c).Φ 0 = PhiI I c 0 from rfl, PhiA0_eq]; unfold PhiI
      iintro ⟨⟨⟨%s0, HS0⟩, ⟨%s1, HS1⟩, ⟨%s2, HS2⟩⟩, Hg⟩
      isplitl [HS0 HS1 HS2]
      · iexists s0; iexists s1; iexists s2
        isplitr; · ipureintro; exact hI.first c 0 s0 s1 s2 rfl
        isplitl [HS0]; · iexact HS0
        isplitl [HS1]; · iexact HS1
        iexact HS2
      iexact Hg)
    (hout := fun c => by
      rw [show (dats m I O 0 c).Φ (Fin.last cfg0.N) = PhiI I c (Fin.last cfg0.N).val from rfl, PhiA0_eq]; unfold PhiI
      iintro ⟨⟨%s0, %s1, %s2, %hs, HS0, HS1, HS2⟩, Hg⟩
      isplitl [HS0 HS1 HS2]
      · isplitl [HS0]; · iexists _; iexact HS0
        isplitl [HS1]; · iexists _; iexact HS1
        iexists _; iexact HS2
      iexact Hg)

/-- The frame, quiescence, and the result. -/
theorem run_value (hI : Steps m I O) :
    θ_run defs (onTc (τ := τ) (main (F := F))) ⟨m, fun _ => 0, ρ⟩ (fun r => (∀ c : Dev nD,
      r.2.mem ((c.tc : Thread nD τ).loc main_v6) = (dats m I O 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h.1 c).1 4,
      ((h.1 c).1 0).trans (((dats m I O 0 c).arrAt_in 0 rfl _).trans ((A_eq m I O c 0).trans (V_main_arg0 m c))),
      ((h.1 c).2 main_arg1 (Pipeline.mem_restRefs_of main_arg1 (by decide) (by decide))).trans (V_main_arg1 m c),
      ((h.1 c).1 1).trans (((dats m I O 0 c).arrAt_in 1 rfl _).trans ((A_eq m I O c 1).trans (V_main_arg2 m c))),
      ((h.1 c).2 main_arg3 (Pipeline.mem_restRefs_of main_arg3 (by decide) (by decide))).trans (V_main_arg3 m c)⟩, h.2⟩) (run_main m ρ I O hI)

end Cert.KernelIdeal.Hand

end
-- ==== Proof.Ideal.Blocks.lean ====
/- The blocks the body finds in its windows, and the arrays the host operations leave, read at an index. -/
module

public import proofs.«01_k».proof.Proof.Ideal.Cols
public import proofs.«01_k».proof.Proof.Ideal.Frame
public import Idealize.ShloMosaic.Lib.Pipeline.ValueKit
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt Ideal) ℓ)

/-! ## The grid's coordinates -/

theorem row0 (t : Fin cfg0.N) : (grid0.coords t 0).val = t.val / 99 := by
  have ht : t.val < 792 := Nat.lt_of_lt_of_eq t.isLt N_0
  have e : (grid0.coords t 0).val = t.val / 99 % 8 := Pipeline.Grid.coords_val t 0 (by decide) rfl
  omega
theorem tile1 (t : Fin cfg0.N) : (grid0.coords t 1).val = t.val % 99 := by
  have e : (grid0.coords t 1).val = t.val / 1 % 99 := Pipeline.Grid.coords_val t 1 (by decide) rfl
  omega
theorem row_lt (t : Fin cfg0.N) : t.val / 99 < 8 := by
  have ht : t.val < 792 := Nat.lt_of_lt_of_eq t.isLt N_0
  omega
theorem toNat_small (x : ℕ) (h : x < 1000) : (BitVec.ofNat 32 x).toNat = x := by
  rw [BitVec.toNat_ofNat]; omega

theorem idx0_0 (t : Fin cfg0.N) : win0_0.index t 0 = t.val / 99 := by
  show (BitVec.ofNat 32 (grid0.coords t 0).val).toNat = _
  have := row_lt t
  rw [row0, toNat_small _ (by omega)]
theorem idx0_1 (t : Fin cfg0.N) : win0_0.index t 1 = 0 := rfl
theorem idx1_0 (t : Fin cfg0.N) : win0_1.index t 0 = 0 := rfl
theorem idx1_1 (t : Fin cfg0.N) : win0_1.index t 1 = t.val % 99 := by
  show (BitVec.ofNat 32 (grid0.coords t 1).val).toNat = _
  rw [tile1, toNat_small _ (by omega)]
theorem idx2_0 (t : Fin cfg0.N) : win0_2.index t 0 = 0 := rfl
theorem idx2_1 (t : Fin cfg0.N) : win0_2.index t 1 = 0 := rfl
theorem idx2_2 (t : Fin cfg0.N) : win0_2.index t 2 = t.val % 99 := by
  show (BitVec.ofNat 32 (grid0.coords t 1).val).toNat = _
  rw [tile1, toNat_small _ (by omega)]
theorem idx3_0 (t : Fin cfg0.N) : win0_3.index t 0 = t.val / 99 := by
  show (BitVec.ofNat 32 (grid0.coords t 0).val).toNat = _
  have := row_lt t
  rw [row0, toNat_small _ (by omega)]
theorem idx3_1 (t : Fin cfg0.N) : win0_3.index t 1 = 0 := rfl
theorem idx4_0 (t : Fin cfg0.N) : win0_4.index t 0 = t.val / 99 := by
  show (BitVec.ofNat 32 (grid0.coords t 0).val).toNat = _
  have := row_lt t
  rw [row0, toNat_small _ (by omega)]
theorem idx4_1 (t : Fin cfg0.N) : win0_4.index t 1 = 0 := rfl

/-! ## What the host operations leave -/

/-- The rows' targets: the token after the row's own, in every lane. -/
theorem V_targets (c : Dev nD) (R : Fin 8192) (l : Fin 128) :
    V m c main_v2 (ix2 R l) = m ((c : Thread nD τ).loc main_arg1) (ix2 0 ⟨R.val + 1, by omega⟩) := by
  entry_read
  pointwise []
  exact congrArg (m _) (congrArg (ix2 (0 : Fin 1)) (Fin.ext (Nat.add_comm 1 R.val)))

/-- The scales: one per tile of 128 columns, repeated across the tile. -/
theorem V_scales (c : Dev nD) (k : Fin 48) (v : Fin 50304) :
    V m c main_v5 (ix3 0 k v) = m ((c : Thread nD τ).loc main_arg3) (ix2 k ⟨v.val / 128, by omega⟩) := by
  entry_read
  pointwise []

/-! ## The windows' blocks -/

/-- A row of a row block. -/
abbrev rowOf (t : Fin cfg0.N) (r : Fin 1024) : Fin 8192 := ⟨1024 * (t.val / 99) + r.val, by have := row_lt t; have := r.isLt; omega⟩

theorem blk0 (c : Dev nD) (t : Fin cfg0.N) (r : Fin 1024) (K : Fin 6144) :
    iblk m c 0 t (ix2 r K) = m ((c : Thread nD τ).loc main_arg0) (ix2 (rowOf t r) K) := by
  blk_ext [iblk, V, idx0_0, idx0_1]

theorem blk3 (c : Dev nD) (t : Fin cfg0.N) (r : Fin 1024) (l : Fin 128) :
    iblk m c 3 t (ix2 r l) = m ((c : Thread nD τ).loc main_arg1) (ix2 0 ⟨(rowOf t r).val + 1, by omega⟩) := by
  refine Eq.trans ?_ (V_targets m c (rowOf t r) l)
  blk_ext [iblk, idx3_0, idx3_1]

theorem xsize1_0 (t : Fin cfg0.N) : win0_1.xsize (grid0.coords t) 0 = 6144 := rfl
theorem xsize1_1 (t : Fin cfg0.N) (x : Fin 512) (hx : 512 * (t.val % 99) + x.val < 50304) : x.val < win0_1.xsize (grid0.coords t) 1 := by
  show x.val < (Pipeline.Clip.of (win0_1.index t 1) 512 50304).extent 512
  have := x.isLt
  rw [idx1_1]
  unfold Pipeline.Clip.of
  split
  · exact x.isLt
  · show x.val < 50304 - t.val % 99 * 512
    omega

/-- A tile's codes, wherever the array has them. -/
theorem blk1 (c : Dev nD) (t : Fin cfg0.N) (d : S6144x512.Idx → Elt Ideal .fp8e4m3) (K : Fin 6144) (x : Fin 512) (hx : 512 * (t.val % 99) + x.val < 50304) :
    win0_1.fill (grid0.coords t) d (iblk m c 1 t) (ix2 K x) = m ((c : Thread nD τ).loc main_arg2) (ix2 K ⟨512 * (t.val % 99) + x.val, hx⟩) := by
  have hm : win0_1.moved (grid0.coords t) (ix2 K x) = true := (win0_1.moved_iff _ _).mpr fun a => match a with
    | ⟨0, _⟩ => K.isLt
    | ⟨1, _⟩ => xsize1_1 t x hx
  unfold Pipeline.Window.fill
  rw [dif_pos hm]
  blk_ext [iblk, V, idx1_0, idx1_1]

theorem xsize2_2 (t : Fin cfg0.N) (x : Fin 512) (hx : 512 * (t.val % 99) + x.val < 50304) : x.val < win0_2.xsize (grid0.coords t) 2 := by
  show x.val < (Pipeline.Clip.of (win0_2.index t 2) 512 50304).extent 512
  have := x.isLt
  rw [idx2_2]
  unfold Pipeline.Clip.of
  split
  · exact x.isLt
  · show x.val < 50304 - t.val % 99 * 512
    omega

/-- A tile's scales, wherever the array has them. -/
theorem blk2 (c : Dev nD) (t : Fin cfg0.N) (d : S1x48x512.Idx → Elt Ideal .f32) (k : Fin 48) (x : Fin 512) (hx : 512 * (t.val % 99) + x.val < 50304) :
    win0_2.fill (grid0.coords t) d (iblk m c 2 t) (ix3 0 k x) = m ((c : Thread nD τ).loc main_arg3) (ix2 k ⟨(512 * (t.val % 99) + x.val) / 128, by omega⟩) := by
  have hm : win0_2.moved (grid0.coords t) (ix3 0 k x) = true := (win0_2.moved_iff _ _).mpr fun a => match a with
    | ⟨0, _⟩ => Nat.one_pos
    | ⟨1, _⟩ => k.isLt
    | ⟨2, _⟩ => xsize2_2 t x hx
  refine Eq.trans ?_ (V_scales m c k ⟨512 * (t.val % 99) + x.val, hx⟩)
  unfold Pipeline.Window.fill
  rw [dif_pos hm]
  blk_ext [iblk, idx2_0, idx2_1, idx2_2]

end Cert.KernelIdeal.Hand

end
-- ==== Proof.Ideal.Acc.lean ====
/- The tile of logits as a running sum of twenty-four products. -/
module

public import proofs.«01_k».proof.Proof.Ideal.Step

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- One of the twenty-four products: two groups' scales, the codes and the activations loaded, and the product added. -/
def dotStep (acc : FVec F S1024x512 .f32) (sa sb : Vec F S1x1x512 .f32) (w : Vec F S256x512 .fp8e4m3) (y : Vec F S1024x256 .bf16) : FVec F S1024x512 .f32 :=
  addf acc (matmul dot_S1024x256_S256x512_S1024x512_1_0_0_1_n_n none y (k0_pay7 sa sb w) (constant S1024x512 .f32 0x00000000#32))

theorem inbS (k : ℕ) (h : k < 48) : ∀ a, (![0, k, 0] : Fin 3 → ℕ) a + S1x1x512.size a ≤ S1x48x512.size a := by
  intro a; fin_cases a <;> simp <;> omega
theorem inbW (k : ℕ) (h : k < 24) : ∀ a, (![256 * k, 0] : Fin 2 → ℕ) a + S256x512.size a ≤ S6144x512.size a := by
  intro a; fin_cases a <;> simp <;> omega
theorem inbY (k : ℕ) (h : k < 24) : ∀ a, (![0, 256 * k] : Fin 2 → ℕ) a + S1024x256.size a ≤ S1024x6144.size a := by
  intro a; fin_cases a <;> simp <;> omega

/-- The running sum after the first `n` products. -/
def accUpTo (x0 : Vec F S1024x6144 .bf16) (x1 : Vec F S6144x512 .fp8e4m3) (x2 : Vec F S1x48x512 .f32) : ∀ n, n ≤ 24 → FVec F S1024x512 .f32
  | 0, _ => broadcast S1024x512 (Scalar.ofBits .f32 0x00000000#32)
  | k + 1, h => dotStep (accUpTo x0 x1 x2 k (by omega))
      (View.ld x2 (Rect.unit (s := S1x48x512) ![0, 2 * k, 0] S1x1x512.size (inbS (2 * k) (by omega))))
      (View.ld x2 (Rect.unit (s := S1x48x512) ![0, 2 * k + 1, 0] S1x1x512.size (inbS (2 * k + 1) (by omega))))
      (View.ld x1 (Rect.unit (s := S6144x512) ![256 * k, 0] S256x512.size (inbW k (by omega))))
      (View.ld x0 (Rect.unit (s := S1024x6144) ![0, 256 * k] S1024x256.size (inbY k (by omega))))

theorem accPay_eq (x0 : Vec F S1024x6144 .bf16) (x1 : Vec F S6144x512 .fp8e4m3) (x2 : Vec F S1x48x512 .f32) :
    accPay x0 x1 x2 = accUpTo x0 x1 x2 24 le_rfl := rfl

end Cert.KernelIdeal.Hand

end
-- ==== Proof.Ideal.AccAt.lean ====
/- The tile of logits element by element, over the extended reals. -/
module

public import proofs.«01_k».proof.Proof.Ideal.Acc
public import Idealize.ShloMosaic.Lib.Pointwise

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

theorem dotStep_apply (acc : FVec Ideal S1024x512 .f32) (sa sb : Vec Ideal S1x1x512 .f32) (w : Vec Ideal S256x512 .fp8e4m3) (y : Vec Ideal S1024x256 .bf16) (r : Fin 1024) (c : Fin 512) :
    dotStep (F := Ideal) acc sa sb w y (ix2 r c) = acc (ix2 r c) + ∑ p : Fin 256, y (ix2 r p) * (w (ix2 p c) * (if p.val < 128 then sa (ix3 0 0 c) else sb (ix3 0 0 c))) := by
  pointwise [dotStep, k0_pay7]

theorem ldW (x1 : Vec Ideal S6144x512 .fp8e4m3) (k : ℕ) (h : k < 24) (p : Fin 256) (c : Fin 512) :
   (View.ld x1 (Rect.unit (s := S6144x512) ![256 * k, 0] S256x512.size (inbW k h))) (ix2 p c) = x1 (ix2 ⟨256 * k + p.val, by omega⟩ c) := by
  pointwise []
theorem ldY (x0 : Vec Ideal S1024x6144 .bf16) (k : ℕ) (h : k < 24) (r : Fin 1024) (p : Fin 256) :
   (View.ld x0 (Rect.unit (s := S1024x6144) ![0, 256 * k] S1024x256.size (inbY k h))) (ix2 r p) = x0 (ix2 r ⟨256 * k + p.val, by omega⟩) := by
  pointwise []
theorem ldS (x2 : Vec Ideal S1x48x512 .f32) (k : ℕ) (h : k < 48) (c : Fin 512) :
   (View.ld x2 (Rect.unit (s := S1x48x512) ![0, k, 0] S1x1x512.size (inbS k h))) (ix3 0 0 c) = x2 (ix3 0 ⟨k, h⟩ c) := by
  pointwise []

/-- Product `K` of the tile's logit at row `r`, column `c`. -/
def prodAt (x0 : Vec Ideal S1024x6144 .bf16) (x1 : Vec Ideal S6144x512 .fp8e4m3) (x2 : Vec Ideal S1x48x512 .f32) (r : Fin 1024) (c : Fin 512) (K : Fin 6144) : EReal :=
  x0 (ix2 r K) * (x1 (ix2 K c) * x2 (ix3 0 ⟨K.val / 128, by omega⟩ c))

theorem accUpTo_apply (x0 : Vec Ideal S1024x6144 .bf16) (x1 : Vec Ideal S6144x512 .fp8e4m3) (x2 : Vec Ideal S1x48x512 .f32) (r : Fin 1024) (c : Fin 512) :
    ∀ n (h : n ≤ 24), accUpTo (F := Ideal) x0 x1 x2 n h (ix2 r c) = ∑ K : Fin (256 * n), prodAt x0 x1 x2 r c ⟨K.val, by omega⟩
  | 0, _ => by
    pointwise [accUpTo]
    exact (Finset.sum_eq_zero fun x _ => absurd x.isLt (by simp)).symm
  | k + 1, h => by
    rw [show accUpTo (F := Ideal) x0 x1 x2 (k + 1) h = dotStep _ _ _ _ _ from rfl, dotStep_apply, accUpTo_apply x0 x1 x2 r c k (by omega)]
    refine Eq.trans ?_ (Fin.sum_univ_add (a := 256 * k) (b := 256) (f := fun K : Fin (256 * k + 256) => prodAt x0 x1 x2 r c ⟨K.val, by have := K.isLt; omega⟩)).symm
    refine congrArg₂ (· + ·) rfl (Finset.sum_congr rfl fun p _ => ?_)
    rw [ldW x1 k (by omega), ldY x0 k (by omega), ldS x2 (2 * k) (by omega), ldS x2 (2 * k + 1) (by omega)]
    have hp := p.isLt
    unfold prodAt
    by_cases h1 : p.val < 128
    · rw [if_pos h1]
      have e : (256 * k + p.val) / 128 = 2 * k := by omega
      simp only [Fin.val_natAdd, e]
    · rw [if_neg h1]
      have e : (256 * k + p.val) / 128 = 2 * k + 1 := by omega
      simp only [Fin.val_natAdd, e]

/-- The tile of logits at an index: the products, all added. -/
theorem accPay_apply (x0 : Vec Ideal S1024x6144 .bf16) (x1 : Vec Ideal S6144x512 .fp8e4m3) (x2 : Vec Ideal S1x48x512 .f32) (r : Fin 1024) (c : Fin 512) :
    accPay (F := Ideal) x0 x1 x2 (ix2 r c) = ∑ K : Fin 6144, prodAt x0 x1 x2 r c K := by
  rw [accPay_eq, accUpTo_apply x0 x1 x2 r c 24 le_rfl]

end Cert.KernelIdeal.Hand

end
-- ==== Proof.Ideal.Inv.lean ====
/- What is known of the scratch between the points of the grid, and that the body keeps it. -/
module

public import proofs.«01_k».proof.Proof.Ideal.Blocks
public import proofs.«01_k».proof.Proof.Ideal.AccAt
public import proofs.«01_k».proof.Proof.Ideal.Math

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

open Cert.KernelIdeal.Math

variable (m : (ℓ : Loc nD τ sig) → Buf (Elt Ideal) ℓ)

/-- The logit of row `R` in column `v`, of the argument arrays. -/
def logit (c : Dev nD) (R : Fin 8192) (v : Fin 50304) : EReal :=
  logitOf (fun K => m ((c : Thread nD τ).loc main_arg0) (ix2 R K)) (fun K => m ((c : Thread nD τ).loc main_arg2) (ix2 K v))
    (fun k => m ((c : Thread nD τ).loc main_arg3) (ix2 k ⟨v.val / 128, by omega⟩))

/-- A row's logits column by column, minus infinity past the last column. -/
abbrev cols (c : Dev nD) (R : Fin 8192) : ℕ → EReal := cutAt 50304 (logit m c R)

/-- A row's target token. -/
def target (c : Dev nD) (R : Fin 8192) : ℕ := BitVec.toNat (w := 32) (m ((c : Thread nD τ).loc main_arg1) (ix2 0 ⟨R.val + 1, by omega⟩))

/-- The tile the body computes at point `t`. -/
abbrev tileAt (c : Dev nD) (t : Fin cfg0.N) (d1 : S6144x512.Idx → Elt Ideal .fp8e4m3) (d2 : S1x48x512.Idx → Elt Ideal .f32) : FVec Ideal S1024x512 .f32 :=
  accPay (F := Ideal) (iblk m c 0 t) (win0_1.fill (grid0.coords t) d1 (iblk m c 1 t)) (win0_2.fill (grid0.coords t) d2 (iblk m c 2 t))

/-- It holds the logits of its rows and columns, wherever the arrays have the column. -/
theorem tileAt_apply (c : Dev nD) (t : Fin cfg0.N) (d1 d2) (r : Fin 1024) (x : Fin 512) (hx : 512 * (t.val % 99) + x.val < 50304) :
    tileAt m c t d1 d2 (ix2 r x) = logit m c (rowOf t r) ⟨512 * (t.val % 99) + x.val, hx⟩ := by
  unfold logit logitOf
  refine (accPay_apply _ _ _ r x).trans (Finset.sum_congr rfl fun K _ => ?_)
  unfold prodAt
  rw [blk0, blk1 m c t d1 K x hx, blk2 m c t d2 ⟨K.val / 128, by omega⟩ x hx]

/-- Lane by lane: group `k` of a tile is the lane's next term. -/
theorem mlg_lane (c : Dev nD) (t : Fin cfg0.N) (d1 d2) (r : Fin 1024) (l : Fin 128) (k : ℕ) (hk : 128 * k + l.val < 512) :
    mlg (t.val % 99) (tileAt m c t d1 d2) r (128 * k) l hk = lane (cols m c (rowOf t r)) l.val (4 * (t.val % 99) + k) := by
  unfold mlg lane cols cutAt
  have e : 512 * (t.val % 99) + 128 * k + l.val = 128 * (4 * (t.val % 99) + k) + l.val := by omega
  rw [e]
  split
  · next h =>
    rw [tileAt_apply m c t d1 d2 r ⟨128 * k + l.val, hk⟩ (by show 512 * (t.val % 99) + (128 * k + l.val) < 50304; omega)]
    exact congrArg (logit m c (rowOf t r)) (Fin.ext (by show 512 * (t.val % 99) + (128 * k + l.val) = 128 * (4 * (t.val % 99) + k) + l.val; omega))
  · rfl

/-- The scratch after `n` tiles of a row block: each lane's running maximum, running sum and target term. -/
def Done (c : Dev nD) (t : Fin cfg0.N) (n : ℕ) (M S T : Vec Ideal S1024x128 .f32) : Prop := ∀ (r : Fin 1024) (l : Fin 128),
  M (ix2 r l) = runMax (lane (cols m c (rowOf t r)) l.val) (4 * n) ∧
  S (ix2 r l) = runSum (lane (cols m c (rowOf t r)) l.val) (4 * n) ∧
  T (ix2 r l) = hit (cols m c (rowOf t r)) (target m c (rowOf t r)) l.val (4 * n)

/-- What is known of the scratch before point `n`: nothing at a row block's first tile, else the tiles so far. -/
def Inv (c : Dev nD) (n : ℕ) (M S T : Vec Ideal S1024x128 .f32) : Prop :=
  n % 99 ≠ 0 → ∀ t : Fin cfg0.N, t.val / 99 = n / 99 → Done m c t (n % 99) M S T

/-- What a row block's tile starts from. -/
theorem start_done (c : Dev nD) (t : Fin cfg0.N) (M S T) (h : Inv m c t.val M S T) :
    Done m c t (t.val % 99) (startM (grid0.coords t) M) (startS (grid0.coords t) S) (startT (grid0.coords t) T) := by
  by_cases h0 : t.val % 99 = 0
  · have hc := (hcond0_0 t).mpr h0
    unfold startM startS startT
    rw [if_pos hc, if_pos hc, if_pos hc, h0]
    intro r l
    rw [pay3_apply, pay4_apply, pay5_apply]
    exact ⟨(runMax_zero _).symm, (runSum_zero _).symm, (hit_zero _ _ _).symm⟩
  · have hc : ¬cond0_0 (grid0.coords t) := fun hc => h0 ((hcond0_0 t).mp hc)
    unfold startM startS startT
    rw [if_neg hc, if_neg hc, if_neg hc]
    exact h h0 t rfl

/-- One tile. -/
theorem tile_done (c : Dev nD) (t : Fin cfg0.N) (d1 d2) (M S T) (h : Inv m c t.val M S T) :
    Done m c t (t.val % 99 + 1)
      (endM (grid0.coords t) (iblk m c 0 t) (win0_1.fill (grid0.coords t) d1 (iblk m c 1 t)) (win0_2.fill (grid0.coords t) d2 (iblk m c 2 t)) M)
      (endS (grid0.coords t) (iblk m c 0 t) (win0_1.fill (grid0.coords t) d1 (iblk m c 1 t)) (win0_2.fill (grid0.coords t) d2 (iblk m c 2 t)) M S)
      (endT (grid0.coords t) (iblk m c 0 t) (win0_1.fill (grid0.coords t) d1 (iblk m c 1 t)) (win0_2.fill (grid0.coords t) d2 (iblk m c 2 t)) (iblk m c 3 t) T) := by
  intro r l
  obtain ⟨hM, hS, hT⟩ := start_done m c t M S T h r l
  have hj : t.val % 99 < 99 := Nat.mod_lt _ (by decide)
  have hl := l.isLt
  have e0 : mlg (t.val % 99) (tileAt m c t d1 d2) r 0 l (by omega) = lane (cols m c (rowOf t r)) l.val (4 * (t.val % 99)) := mlg_lane m c t d1 d2 r l 0 (by omega)
  have e1 : mlg (t.val % 99) (tileAt m c t d1 d2) r 128 l (by omega) = lane (cols m c (rowOf t r)) l.val (4 * (t.val % 99) + 1) := mlg_lane m c t d1 d2 r l 1 (by omega)
  have e2 : mlg (t.val % 99) (tileAt m c t d1 d2) r 256 l (by omega) = lane (cols m c (rowOf t r)) l.val (4 * (t.val % 99) + 2) := mlg_lane m c t d1 d2 r l 2 (by omega)
  have e3 : mlg (t.val % 99) (tileAt m c t d1 d2) r 384 l (by omega) = lane (cols m c (rowOf t r)) l.val (4 * (t.val % 99) + 3) := mlg_lane m c t d1 d2 r l 3 (by omega)
  have hM' : stepM (F := Ideal) (BitVec.ofNat 32 (t.val % 99)) (tileAt m c t d1 d2) (startM (grid0.coords t) M) (ix2 r l)
      = runMax (lane (cols m c (rowOf t r)) l.val) (4 * (t.val % 99) + 4) := by
    rw [stepM_apply _ hj, e0, e1, e2, e3, hM, runMax_four]
  have htg : BitVec.toNat (w := 32) (iblk m c 3 t (ix2 r l)) = target m c (rowOf t r) := congrArg BitVec.toNat (blk3 m c t r l)
  unfold endM endS endT tileNo
  rw [tile1]
  refine ⟨hM', ?_, ?_⟩
  · refine (stepS_apply _ hj _ _ _ r l _ hM').trans ?_
    rw [e0, e1, e2, e3, hM, hS]
    exact (runSum_four _ _).symm
  · refine (stepT_apply _ hj _ _ _ r l).trans ?_
    rw [e0, e1, e2, e3, hT]
    rw [show 4 * (t.val % 99 + 1) = 4 * (t.val % 99) + 3 + 1 from by omega, hit_succ _ _ _ _ hl, hit_succ _ _ _ (4 * (t.val % 99) + 2) hl, hit_succ _ _ _ (4 * (t.val % 99) + 1) hl, hit_succ _ _ _ (4 * (t.val % 99)) hl]
    refine if_congr ?_ rfl (if_congr ?_ rfl (if_congr ?_ rfl (if_congr ?_ rfl rfl)))
    all_goals
      rw [htg]
      constructor <;> intro h <;> omega

/-- What the body leaves in the output block of a row: the loss, from the lanes. -/
def lossOf (c : Dev nD) (R : Fin 8192) : EReal :=
  Ideal.log (∑ l : Fin 128, runSum (lane (cols m c R) l.val) 396 * Ideal.exp (runMax (lane (cols m c R) l.val) 396
      - (Finset.univ : Finset (Fin 128)).sup (fun l => runMax (lane (cols m c R) l.val) 396)))
    + (Finset.univ : Finset (Fin 128)).sup (fun l => runMax (lane (cols m c R) l.val) 396)
    - ∑ l : Fin 128, hit (cols m c R) (target m c R) l.val 396 - Ideal.ofBits .f32 0x412D36A4#32

/-- The block the body leaves at a row block's last tile. -/
def Out (c : Dev nD) (t : Fin cfg0.N) : Vec Ideal S1024x128 .f32 := fun i => lossOf m c (rowOf t (i 0))

theorem pay2_done (c : Dev nD) (t : Fin cfg0.N) (M S T) (h : Done m c t 99 M S T) : k0_pay2 (F := Ideal) M S M T = Out m c t := by
  funext i
  rw [eq_ix2 i]
  refine (pay2_apply M S T (i 0) (i 1)).trans ?_
  show _ = lossOf m c (rowOf t (i 0))
  unfold lossOf
  have hM : ∀ x : Fin 128, M (ix2 (i 0) x) = runMax (lane (cols m c (rowOf t (i 0))) x.val) 396 := fun x => (h (i 0) x).1
  have hS : ∀ x : Fin 128, S (ix2 (i 0) x) = runSum (lane (cols m c (rowOf t (i 0))) x.val) 396 := fun x => (h (i 0) x).2.1
  have hT : ∀ x : Fin 128, T (ix2 (i 0) x) = hit (cols m c (rowOf t (i 0))) (target m c (rowOf t (i 0))) x.val 396 := fun x => (h (i 0) x).2.2
  simp only [hM, hS, hT]

/-- The body keeps the invariant and leaves the losses. -/
theorem steps : Steps m (Inv m) (Out m) where
  first c n M S T h := fun h' => absurd h h'
  step c t d1 d2 M S T h := by
    intro h0 t' ht'
    have e : t'.val / 99 = t.val / 99 := by omega
    have en : (t.val + 1) % 99 = t.val % 99 + 1 := by omega
    have er : ∀ r, rowOf t' r = rowOf t r := fun r => Fin.ext (by show 1024 * (t'.val / 99) + r.val = 1024 * (t.val / 99) + r.val; rw [e])
    rw [en]
    intro r l
    rw [er]
    exact tile_done m c t d1 d2 M S T h r l
  out c t d1 d2 d4 M S T h h98 := by
    unfold endO
    rw [if_pos ((hcond0_1 t).mpr h98)]
    refine pay2_done m c t _ _ _ ?_
    have := tile_done m c t d1 d2 M S T h
    rw [h98] at this
    exact this

end Cert.KernelIdeal.Hand

end
-- ==== Proof.Ideal.Value.lean ====
/- The result of the run: every row holds its loss. -/
module

public import proofs.«01_k».proof.Proof.Ideal.Inv

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

open Cert.KernelIdeal.Math

variable (m : (ℓ : Loc nD τ sig) → Buf (Elt Ideal) ℓ)

/-- The result array: every row's loss, in every lane. -/
def losses (c : Dev nD) : S8192x128.Idx → Elt Ideal .f32 := fun i => lossOf m c (i 0)

/-- After the run the output's array is the rows' losses. -/
theorem result (c : Dev nD) : (dats m (Inv m) (Out m) 0 c).arrAt 4 cfg0.N = losses m c := by
  refine (dats m (Inv m) (Out m) 0 c).arrAt_eq_of_covers 4 _ (by decide +kernel) fun t hf y => ?_
  have e : (dats m (Inv m) (Out m) 0 c).after 4 t = Out m c t := rfl
  blk_simp [e]
  show lossOf m c (rowOf t (y 0)) = lossOf m c ((win0_4.blk t).view.emb y 0)
  refine congrArg (lossOf m c) (Fin.ext ?_)
  show 1024 * (t.val / 99) + (y 0).val = ((win0_4.blk t).view.emb y 0).val
  blk_simp [idx4_0]
  omega

/-- Where the target is a column, the lanes give the loss. -/
theorem lossOf_eq (c : Dev nD) (R : Fin 8192) (h : target m c R < 50304) :
    lossOf m c R = loss 50304 (logit m c R) ⟨target m c R, h⟩ (Ideal.ofBits .f32 0x412D36A4#32) :=
  loss_of_lanes 50304 396 (by decide) (logit m c R) ⟨target m c R, h⟩ _

end Cert.KernelIdeal.Hand

end
-- ==== Proof.Ref.At.lean ====
/- The reference's one block read at an index. -/
module

public import proofs.«01_k».proof.Proof.Gen.ReferenceIdeal.Frame
public import proofs.«01_k».proof.Proof.Gen.ReferenceIdeal.Skeleton
public import proofs.«01_k».proof.Proof.Ideal.Math
public import Idealize.ShloMosaic.Lib.Pointwise

@[expose] public section

set_option maxRecDepth 16384

noncomputable section

namespace Cert.ReferenceIdeal.Hand

open Cert.ReferenceIdeal.Gen
open Idealize.ShloMosaic Idealize.ShloMosaic.TcCoe Idealize.ShloMosaic.Tactic
open Idealize.SL.Sem
open Idealize.ShloMosaic.Pipeline (Dat Cfg Window)
open Cert.KernelIdeal.Math

/-- The reference's logits of a row, from its blocks. -/
abbrev logitAt (y : Vec Ideal S8192x6144 .bf16) (w : Vec Ideal S6144x50304 .fp8e4m3) (s : Vec Ideal S48x393 .f32) (R : Fin 8192) (v : Fin 50304) : EReal :=
  logitOf (fun K => y (ix2 R K)) (fun K => w (ix2 K v)) (fun k => s (ix2 k ⟨v.val / 128, by omega⟩))

/-- Whether a column is the target, as the reference compares them. -/
theorem isTarget (v : Fin 50304) (t : BitVec 32) (a b : EReal) :
    Scalar.select (IntOp.cmpi CmpIPredicate.eq (BitVec.ofNat 32 v.val) t) a b = if v.val = t.toNat then a else b := by
  have hv := v.isLt
  have h : (BitVec.ofNat 32 v.val).toNat = v.val := by rw [BitVec.toNat_ofNat]; omega
  generalize BitVec.ofNat 32 v.val = w at h ⊢
  rw [← h]
  unfold IntOp.cmpi
  by_cases e : w = t
  · subst e; simp [Scalar.select]
  · have e' : ¬ w.toNat = t.toNat := fun h' => e (BitVec.eq_of_toNat_eq h')
    have e'' : (w == t) = false := by simpa using e
    simp [e', e'', Scalar.select]

/-- The reference's result in a row, where the row's target is a column: the loss of the row's logits. -/
theorem pay1_apply (y : Vec Ideal S8192x6144 .bf16) (w : Vec Ideal S6144x50304 .fp8e4m3) (s : Vec Ideal S48x393 .f32) (t : Vec Ideal S8192x1 .i32) (R : Fin 8192) (l : Fin 128)
    (n : Fin 50304) (hn : BitVec.toNat (w := 32) (t (ix2 R 0)) = n.val) :
    k0_pay1 (F := Ideal) y w s t (ix2 R l) = loss 50304 (logitAt y w s R) n (Ideal.ofBits .f32 0x412D36A4#32) := by
  have hb : Ideal.ofBits .f32 0xFF800000#32 = ⊥ := by simp [Ideal.ofBits, Ideal.ieee]
  unfold_payloads
  pointwise []
  simp only [hb, fold_max]
  have ht : ∑ v : Fin 50304, Scalar.select (IntOp.cmpi CmpIPredicate.eq (BitVec.ofNat 32 v.val) (t (ix2 R 0))) (logitAt y w s R v) 0 = logitAt y w s R n := by
    simp only [isTarget, hn]
    rw [Finset.sum_eq_single n]
    · exact if_pos rfl
    · exact fun v _ h => if_neg fun e => h (Fin.ext e)
    · exact fun h => absurd (Finset.mem_univ n) h
  unfold loss
  rw [← ht]
  rfl

end Cert.ReferenceIdeal.Hand

end
-- ==== Proof.Ref.Value.lean ====
/- The reference's result after its run. -/
module

public import proofs.«01_k».proof.Proof.Ref.At
public import Idealize.ShloMosaic.Lib.Pipeline.ValueKit
public import Idealize.ShloMosaic.Lib.Claim

@[expose] public section

set_option maxRecDepth 16384

noncomputable section

namespace Cert.ReferenceIdeal.Hand

open Cert.ReferenceIdeal.Gen
open Idealize.ShloMosaic Idealize.ShloMosaic.TcCoe Idealize.ShloMosaic.Tactic
open Idealize.SL.Sem
open Idealize.ShloMosaic.Pipeline (Dat Cfg Window)
open Cert.KernelIdeal.Math

variable (m : (ℓ : Loc nD τ sig) → Buf (Elt Ideal) ℓ) (ρ : Dev nD → PrngReg)

/-- The rows' targets: the token after the row's own. -/
theorem V_targets (c : Dev nD) (R : Fin 8192) :
    V m c main_v1 (ix2 R 0) = m ((c : Thread nD τ).loc main_arg1) (ix2 0 ⟨R.val + 1, by omega⟩) := by
  entry_read
  pointwise []
  exact congrArg (m _) (congrArg (ix2 (0 : Fin 1)) (Fin.ext (Nat.add_comm 1 R.val)))

/-! ## The windows' blocks are their whole arrays -/

theorem idx0 (t : Fin cfg0.N) (a : Fin 2) : win0_0.index t a = 0 := rfl
theorem idx1 (t : Fin cfg0.N) (a : Fin 2) : win0_1.index t a = 0 := rfl
theorem idx2 (t : Fin cfg0.N) (a : Fin 2) : win0_2.index t a = 0 := rfl
theorem idx3 (t : Fin cfg0.N) (a : Fin 2) : win0_3.index t a = 0 := rfl
theorem idx4 (t : Fin cfg0.N) (a : Fin 2) : win0_4.index t a = 0 := rfl

theorem blk0 (c : Dev nD) (t : Fin cfg0.N) : iblk m c 0 t = m ((c : Thread nD τ).loc main_arg0) := by
  funext i
  blk_ext [iblk, V, idx0]
theorem blk1 (c : Dev nD) (t : Fin cfg0.N) : iblk m c 1 t = V m c main_v1 := by
  funext i
  blk_ext [iblk, idx1]
theorem blk2 (c : Dev nD) (t : Fin cfg0.N) : iblk m c 2 t = m ((c : Thread nD τ).loc main_arg2) := by
  funext i
  blk_ext [iblk, V, idx2]
theorem blk3 (c : Dev nD) (t : Fin cfg0.N) : iblk m c 3 t = m ((c : Thread nD τ).loc main_arg3) := by
  funext i
  blk_ext [iblk, V, idx3]

/-- The result array after the run. -/
theorem result (c : Dev nD) : (dats m 0 c).arrAt 4 cfg0.N = k0_pay1 (F := Ideal) (m ((c : Thread nD τ).loc main_arg0)) (m ((c : Thread nD τ).loc main_arg2)) (m ((c : Thread nD τ).loc main_arg3)) (V m c main_v1) := by
  refine (dats m 0 c).arrAt_eq_of_covers 4 _ (by decide +kernel) fun t hf y => ?_
  blk_simp
  rw [after0_4]
  frame_out
  rw [blk0, blk1, blk2, blk3]
  refine congrArg _ ?_
  blk_ext [idx4]

/-- Where a row's target is a column, the row of the result is the loss of the row's logits. -/
theorem result_apply (c : Dev nD) (R : Fin 8192) (l : Fin 128) (n : Fin 50304)
    (hn : BitVec.toNat (w := 32) (m ((c : Thread nD τ).loc main_arg1) (ix2 0 ⟨R.val + 1, by omega⟩)) = n.val) :
    (dats m 0 c).arrAt 4 cfg0.N (ix2 R l) = loss 50304 (logitAt (m ((c : Thread nD τ).loc main_arg0)) (m ((c : Thread nD τ).loc main_arg2)) (m ((c : Thread nD τ).loc main_arg3)) R) n (Ideal.ofBits .f32 0x412D36A4#32) := by
  rw [result]
  exact pay1_apply _ _ _ _ R l n ((congrArg BitVec.toNat (V_targets m c R)).trans hn)

/-- The run: the result array's value, the arguments unchanged, every counter at zero. -/
theorem run_value : θ_run defs (onTc (τ := τ) (main (F := Ideal))) ⟨m, fun _ => 0, ρ⟩ (fun r => ∀ c : Dev nD,
      r.2.mem ((c.tc : Thread nD τ).loc main_v2) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1 c).1 4, h.2 c⟩) (θ_run_and (run_main m ρ) (unchanged m ρ))

end Cert.ReferenceIdeal.Hand

end
-- ==== Proof.Same.lean ====
/- The kernel's result and the reference's, from the same arguments. -/
module

public import proofs.«01_k».proof.Proof.Pre
public import proofs.«01_k».proof.Proof.Ideal.Value
public import proofs.«01_k».proof.Proof.Ref.Value

@[expose] public section

noncomputable section

namespace Cert.Proof

open Idealize.ShloMosaic Idealize.ShloMosaic.TcCoe Idealize.SL.Sem

/-- The kernel's frame, without the precondition. -/
theorem quiescent : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.Hand.run_value m g _ _ (Cert.KernelIdeal.Hand.steps m))

/-- The results are equal where the tokens are in the vocabulary. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_in_vocab (hPre_in_vocab := Cert.Pre_in_vocab.Hand.facts) m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (Cert.ReferenceIdeal.Gen.dats m' 0 c).arrAt 4 Cert.ReferenceIdeal.cfg0.N = Cert.KernelIdeal.Hand.losses m c := by
  funext i
  rw [eq_ix2 i]
  have ht : Cert.KernelIdeal.Hand.target m c (i 0) < 50304 :=
    Cert.Pre_in_vocab.Hand.lt_of_pre (hFacts := Cert.Pre_in_vocab.Hand.facts) _ _ _ _ (hpre c) _
  refine (Cert.ReferenceIdeal.Hand.result_apply m' c (i 0) (i 1) ⟨_, ht⟩ (congrArg (fun a : IVec Cert.KernelIdeal.S1x8193 32 => (a _).toNat) h1)).trans ?_
  rw [h0, h2, h3]
  exact (Cert.KernelIdeal.Hand.lossOf_eq m c (i 0) ht).symm

theorem algebraic : Cert.algebraic_KernelIdeal_ReferenceIdeal_pre_in_vocab (hKernelIdeal := Cert.KernelIdeal.Gen.facts)
    (hReferenceIdeal := Cert.ReferenceIdeal.Gen.facts) (hPre_in_vocab := Cert.Pre_in_vocab.Hand.facts) := fun m g m' g' hpre hargs =>
  ⟨Cert.KernelIdeal.Hand.losses m,
    (θ_run Cert.KernelIdeal.defs _ _).mono (fun _ h c => ⟨(h.1 c).1.trans (Cert.KernelIdeal.Hand.result m c), (h.1 c).2⟩) (Cert.KernelIdeal.Hand.run_value m g _ _ (Cert.KernelIdeal.Hand.steps m)),
    (θ_run Cert.ReferenceIdeal.defs _ _).mono (fun _ h c => ⟨(h c).1.trans (same m m' hpre c (hargs c).1 (hargs c).2.1 (hargs c).2.2.1 (hargs c).2.2.2), (h c).2⟩)
      (Cert.ReferenceIdeal.Hand.run_value m' g')⟩

end Cert.Proof

end
-- ==== Proof.ProjWord.Base.lean ====
/- What the proofs about the projection's body at its word types share: when its condition holds (the last column
   block), the names of the staging memrefs, the scratch, and the frame from a run whose outputs are not named. -/
module

public import proofs.«01_k».proof.Proof.Gen.Proj.Frame
public import proofs.«01_k».proof.Proof.Gen.Proj.Skeleton
public import Idealize.ShloMosaic.Lib.WordCmp

@[expose] public section

set_option maxRecDepth 16384

noncomputable section

namespace Cert.Proj.Hand

open Cert.Proj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 from the grid coordinates. -/
abbrev cond0_0 (i : grid0.Coords) : Prop := k0_cond1 i = 1#1
/-- It holds at the points ≡ 11 (mod 12) — by arithmetic of the point. -/
theorem hcond0_0 : ∀ t : Fin cfg0.N, cond0_0 (grid0.coords t) ↔ t.val % 12 = 11 :=
  (fun t => by
    have ht : t.val < 384 := Nat.lt_of_lt_of_eq t.isLt N_0
    have e0 : (grid0.coords t 0).val = t.val / 12 % 32 := Pipeline.Grid.coords_val t 0 (by decide) rfl
    have e1 : (grid0.coords t 1).val = t.val / 1 % 12 := Pipeline.Grid.coords_val t 1 (by decide) rfl
    simp only [cond0_0, k0_cond1, e0, e1]
    word_cmp
   : ∀ t : Fin grid0.N, cond0_0 (grid0.coords t) ↔ t.val % 12 = 11)

/-! ## Where the windows are idle -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl

/-! ## The memrefs the body is given -/

/-- Each window's current staging memref at point `t`, spelled as the pipeline passes it (`bodyAt0`), and its wholeness. -/
abbrev ms0_0 (t : Fin cfg0.N) : Memref sig .tc .vmem S256x12288 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S12288x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x96x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x6144 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x6144 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x6144 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x48 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x6144 .bf16 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S256x6144 .f32 := Memref.whole cc0_scratch0

/-- What the region owns beside the windows: the scratch at some contents, and the generator at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The frame from a run whose outputs are not named -/

/-- A run that leaves each staged input as it was and every unstaged buffer as the region found it leaves the
    arguments unchanged. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      (Pipeline.RDat.FramePost.arr_in h c 1 rfl).trans ((hA c 1).trans (V_main_arg2 m c)),
      ((h c).2 main_arg3 (Pipeline.mem_restRefs_of main_arg3 (by decide) (by decide))).trans (V_main_arg3 m c)⟩) h

end Cert.Proj.Hand

end
-- ==== Proof.ProjWord.RunA.lean ====
/- The body of the projection run away from the last column block: it leaves its inputs as they were. -/
module

public import proofs.«01_k».proof.Proof.ProjWord.Base

@[expose] public section

set_option maxRecDepth 16384

noncomputable section

namespace Cert.Proj.Hand

open Cert.Proj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- On whole staging memrefs, the inputs at known contents and the outputs and the scratch at any, the body runs to the
    end and leaves the inputs as they were. -/
theorem kernelRun0_A (c : Dev nD) (i : grid0.Coords) (arg2 : Memref sig .tc .vmem S256x12288 .bf16) (harg2 : arg2.IsWhole) (arg3 : Memref sig .tc .vmem S12288x512 .fp8e4m3) (harg3 : arg3.IsWhole) (arg4 : Memref sig .tc .vmem S1x96x512 .f32) (harg4 : arg4.IsWhole) (arg5 : Memref sig .tc .vmem S1x6144 .f32) (harg5 : arg5.IsWhole) (arg6 : Memref sig .tc .vmem S256x6144 .bf16) (harg6 : arg6.IsWhole) (arg7 : Memref sig .tc .vmem S256x6144 .fp8e4m3) (harg7 : arg7.IsWhole) (arg8 : Memref sig .tc .vmem S256x48 .f32) (harg8 : arg8.IsWhole) (arg9 : Memref sig .tc .vmem S256x6144 .bf16) (harg9 : arg9.IsWhole) (arg10 : Memref sig .tc .vmem S256x6144 .f32) (harg10 : arg10.IsWhole) (hc0 : ¬cond0_0 i)
    (x0 : Vec F S256x12288 .bf16) (x1 : Vec F S12288x512 .fp8e4m3) (x2 : Vec F S1x96x512 .f32) (x3 : Vec F S1x6144 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10) K := by
    intro E K
    simp only [cc0_proj_eq_skeleton]; unfold cc0_proj_skel
    simp only [k0_part329_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    iexists _, _; isplitr; swap; · iexact HS0
    ipureintro; rfl

end Cert.Proj.Hand

end
-- ==== Proof.ProjWord.RunB.lean ====
/- The body of the projection run at the last column block: it leaves its inputs as they were. -/
module

public import proofs.«01_k».proof.Proof.ProjWord.RunA

@[expose] public section

set_option maxRecDepth 16384

noncomputable section

namespace Cert.Proj.Hand

open Cert.Proj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 12080000 in
/-- On whole staging memrefs, the inputs at known contents and the outputs and the scratch at any, the body runs to the
    end and leaves the inputs as they were. -/
theorem kernelRun0_B (c : Dev nD) (i : grid0.Coords) (arg2 : Memref sig .tc .vmem S256x12288 .bf16) (harg2 : arg2.IsWhole) (arg3 : Memref sig .tc .vmem S12288x512 .fp8e4m3) (harg3 : arg3.IsWhole) (arg4 : Memref sig .tc .vmem S1x96x512 .f32) (harg4 : arg4.IsWhole) (arg5 : Memref sig .tc .vmem S1x6144 .f32) (harg5 : arg5.IsWhole) (arg6 : Memref sig .tc .vmem S256x6144 .bf16) (harg6 : arg6.IsWhole) (arg7 : Memref sig .tc .vmem S256x6144 .fp8e4m3) (harg7 : arg7.IsWhole) (arg8 : Memref sig .tc .vmem S256x48 .f32) (harg8 : arg8.IsWhole) (arg9 : Memref sig .tc .vmem S256x6144 .bf16) (harg9 : arg9.IsWhole) (arg10 : Memref sig .tc .vmem S256x6144 .f32) (harg10 : arg10.IsWhole) (hc0 : cond0_0 i)
    (x0 : Vec F S256x12288 .bf16) (x1 : Vec F S12288x512 .fp8e4m3) (x2 : Vec F S1x96x512 .f32) (x3 : Vec F S1x6144 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10) K := by
    intro E K
    simp only [cc0_proj_eq_skeleton]; unfold cc0_proj_skel
    simp only [k0_part329_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part303_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part304_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part305_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part306_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part307_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    iexists _, _; isplitr; swap; · iexact HS0
    ipureintro; rfl

end Cert.Proj.Hand

end
-- ==== Proof.ProjWord.Frame.lean ====
/- The frame of the projection at its word types: every execution ends, with its arguments unchanged. -/
module

public import proofs.«01_k».proof.Proof.ProjWord.RunB
public import Idealize.ShloMosaic.Lib.Claim

@[expose] public section

set_option maxRecDepth 16384

noncomputable section

namespace Cert.Proj.Hand

open Cert.Proj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The outputs, of which nothing is stated here. -/
def forgets0 : Fin 8 → Bool := fun w => w.val == 4 || w.val == 5 || w.val == 6 || w.val == 7

/-- The proof data: the arrays as the region finds them, each input left in place, the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The proof data's arrays are the contents the region finds. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 1600000 in
/-- The body at any point: the condition holds or not, and the run of that case applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 384 := lt_of_lt_of_eq t.isLt (show cfg0.N = 384 from N_0)
  by_cases h0 : t.val % 12 = 11
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ ((hcond0_0 t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS0]; · iexact HS0
    iintro ⟨H0, H1, H2, H3, H4, H5, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ (fun h => h0 ((hcond0_0 t).mp h)) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS0]; · iexact HS0
    iintro ⟨H0, H1, H2, H3, H4, H5, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body does at every point what the pipeline asks of it. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- the library theorem's implicit arguments are found by unifying its conclusion with this statement
set_option backward.isDefEq.respectTransparency.types false in
/-- Every weakly fair execution of the program ends, with the inputs as they were, every unstaged buffer as the region
    found it, and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- Every execution ends, with the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Proj.Hand

end
-- ==== Proof.ProjIdeal.Base.lean ====
/- What the proofs about the projection's body share: when its condition holds (the last column block), where the
   output window is idle, the names of the staging memrefs, and the scratch. -/
module

public import proofs.«01_k».proof.Proof.Gen.ProjIdeal.Frame
public import proofs.«01_k».proof.Proof.Gen.ProjIdeal.Skeleton
public import Idealize.ShloMosaic.Lib.WordCmp

@[expose] public section

set_option maxRecDepth 16384

noncomputable section

namespace Cert.ProjIdeal.Hand

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 from the grid coordinates. -/
abbrev cond0_0 (i : grid0.Coords) : Prop := k0_cond1 i = 1#1
/-- It holds at the points ≡ 11 (mod 12) — by arithmetic of the point. -/
theorem hcond0_0 : ∀ t : Fin cfg0.N, cond0_0 (grid0.coords t) ↔ t.val % 12 = 11 :=
  (fun t => by
    have ht : t.val < 384 := Nat.lt_of_lt_of_eq t.isLt N_0
    have e0 : (grid0.coords t 0).val = t.val / 12 % 32 := Pipeline.Grid.coords_val t 0 (by decide) rfl
    have e1 : (grid0.coords t 1).val = t.val / 1 % 12 := Pipeline.Grid.coords_val t 1 (by decide) rfl
    simp only [cond0_0, k0_cond1, e0, e1]
    word_cmp
   : ∀ t : Fin grid0.N, cond0_0 (grid0.coords t) ↔ t.val % 12 = 11)

/-! ## Where the windows are idle -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl

/-! ## The memrefs the body is given -/

/-- Each window's current staging memref at point `t`, spelled as the pipeline passes it (`bodyAt0`), and its wholeness. -/
abbrev ms0_0 (t : Fin cfg0.N) : Memref sig .tc .vmem S256x12288 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S12288x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x96x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x6144 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x6144 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x6144 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x48 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x6144 .bf16 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S256x6144 .f32 := Memref.whole cc0_scratch0

/-- What the region owns beside the windows: the scratch at some contents, and the generator at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The output window -/

/-- Away from the last column block the output window is idle and is not written back. -/
theorem idle4 : ∀ t : Fin cfg0.N, ¬t.val % 12 = 11 → cfg0.idle 4 (grid0.coords t) = true ∧ (cfg0.win 4).flush t = false :=
  (by decide +kernel : ∀ t : Fin grid0.N, ¬t.val % 12 = 11 → cfg0.idle 4 (grid0.coords t) = true ∧ (cfg0.win 4).flush t = false)
/-- At the last column block it is not idle. -/
theorem live4 : ∀ t : Fin cfg0.N, t.val % 12 = 11 → cfg0.idle 4 (grid0.coords t) = false :=
  (by decide +kernel : ∀ t : Fin grid0.N, t.val % 12 = 11 → cfg0.idle 4 (grid0.coords t) = false)

end Cert.ProjIdeal.Hand

end
-- ==== Proof.ProjIdeal.Acc.lean ====
/- The block of the projection one point computes, as a running sum of forty-eight products, and how it sits in the
   scratch. -/
module

public import proofs.«01_k».proof.Proof.ProjIdeal.Base

@[expose] public section

set_option maxRecDepth 16384

noncomputable section

namespace Cert.ProjIdeal.Hand

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One of the forty-eight products: two groups' scales, the codes and the activations loaded, and the product added. -/
def dotStep (acc : FVec F S256x512 .f32) (sa sb : Vec F S1x1x512 .f32) (w : Vec F S256x512 .fp8e4m3) (y : Vec F S256x256 .bf16) : FVec F S256x512 .f32 :=
  addf acc (matmul dot_S256x256_S256x512_S256x512_1_0_0_1_n_n none y
    (mulf (extf .bf16 w bitsLt_fp8e4m3_bf16) (truncf .bf16 (concatenate S256x512 0
      [⟨S128x512, broadcastTo S128x512 (shapeCast S1x512 (shapeCast S1x512 sa shapeCasts_S1x1x512_S1x512) shapeCasts_S1x512_S1x512) broadcasts_S1x512_S128x512⟩,
       ⟨S128x512, broadcastTo S128x512 (shapeCast S1x512 (shapeCast S1x512 sb shapeCasts_S1x1x512_S1x512) shapeCasts_S1x512_S1x512) broadcasts_S1x512_S128x512⟩]
      concatenates_S128x512_S128x512_S256x512_d0) bitsLt_bf16_f32)) (constant S256x512 .f32 0x00000000#32))

theorem inbS (k : ℕ) (h : k < 96) : ∀ a, (![0, k, 0] : Fin 3 → ℕ) a + S1x1x512.size a ≤ S1x96x512.size a := by
  intro a; fin_cases a <;> simp <;> omega
theorem inbW (k : ℕ) (h : k < 48) : ∀ a, (![256 * k, 0] : Fin 2 → ℕ) a + S256x512.size a ≤ S12288x512.size a := by
  intro a; fin_cases a <;> simp <;> omega
theorem inbX (k : ℕ) (h : k < 48) : ∀ a, (![0, 256 * k] : Fin 2 → ℕ) a + S256x256.size a ≤ S256x12288.size a := by
  intro a; fin_cases a <;> simp <;> omega

/-- The running sum after the first `n` products. -/
def accUpTo (x0 : Vec F S256x12288 .bf16) (x1 : Vec F S12288x512 .fp8e4m3) (x2 : Vec F S1x96x512 .f32) : ∀ n, n ≤ 48 → FVec F S256x512 .f32
  | 0, _ => broadcast S256x512 (Scalar.ofBits .f32 0x00000000#32)
  | k + 1, h => dotStep (accUpTo x0 x1 x2 k (by omega))
      (View.ld x2 (Rect.unit (s := S1x96x512) ![0, 2 * k, 0] S1x1x512.size (inbS (2 * k) (by omega))))
      (View.ld x2 (Rect.unit (s := S1x96x512) ![0, 2 * k + 1, 0] S1x1x512.size (inbS (2 * k + 1) (by omega))))
      (View.ld x1 (Rect.unit (s := S12288x512) ![256 * k, 0] S256x512.size (inbW k (by omega))))
      (View.ld x0 (Rect.unit (s := S256x12288) ![0, 256 * k] S256x256.size (inbX k (by omega))))

/-- The block of the projection that one point computes: what it stores into the scratch. -/
def accPay (x0 : Vec F S256x12288 .bf16) (x1 : Vec F S12288x512 .fp8e4m3) (x2 : Vec F S1x96x512 .f32) : FVec F S256x512 .f32 :=
  shapeCast S256x512 (accUpTo x0 x1 x2 48 le_rfl) shapeCasts_S256x512_S256x512

/-- Where in the scratch the point's block goes: its 512 columns. -/
abbrev cols (i : grid0.Coords) : Rect S256x6144 := Rect.unit (s := S256x6144) (k0_off1 i) S256x512.size (k0_off1_inb i)

/-- The scratch `xs'` is the scratch `xs` with the point's columns at `a`. -/
structure Slab (i : grid0.Coords) (a : FVec F S256x512 .f32) (xs xs' : Vec F S256x6144 .f32) : Prop where
  hit : ∀ x, xs' ((cols i).emb x) = a x
  rest : ∀ y, y ∉ (cols i).set → xs' y = xs y

/-- A scratch read after the one store into those columns. -/
theorem slab_of {κ : Kind} {sp : Space} (v : View sig κ sp S256x6144 .f32) (f : v.ty.Contents (Elt F)) (i : grid0.Coords) (a : FVec F S256x512 .f32) :
    Slab i a (View.read (Elt F) v f) (View.read (Elt F) v (v.writes (Elt F) f [⟨cols i, a⟩])) where
  hit x := View.read_writes_cons_emb v f (cols i) a [] x
  rest y hy := View.read_writes_apply_of_forall_not_mem v f y [⟨cols i, a⟩] (fun p hp => by rw [List.mem_singleton.mp hp]; exact hy)

/-- A buffer read after stores that tile it, each storing its rectangle of `G`, reads as `G`. -/
theorem read_tiles {κ : Kind} {sp : Space} {s : Shape} {e : EltTy} (v : View sig κ sp s e) (f : v.ty.Contents (Elt F)) (G : s.Idx → Elt F e) (g : Fin s.rank → ℕ)
    (L : List (View.Piece (Elt F) s e)) (hc : View.Piece.tiledL L g = true) (hp : L.Forall fun p => ∀ x : p.1.shape.Idx, p.2 x = G (p.1.emb x)) :
    View.read (Elt F) v (v.writes (Elt F) f L) = G :=
  funext fun y => View.read_writes_apply_of_pieces v f G L (List.forall_iff_forall_mem.mp hp) y (View.cover_of_tiledL L g hc y)

end Cert.ProjIdeal.Hand

end
-- ==== Proof.ProjIdeal.Math.lean ====
/- The projection of one row onto one column, over the extended reals. -/
module

public import Idealize.ShloMosaic.Lib.Pointwise

@[expose] public section

noncomputable section

namespace Cert.ProjIdeal.Math

/-- A row of activations against a column of codes, each code scaled by its group of 128 rows. -/
def proj (x w : Fin 12288 → EReal) (s : Fin 96 → EReal) : EReal := ∑ K : Fin 12288, x K * (w K * s ⟨K.val / 128, by omega⟩)

end Cert.ProjIdeal.Math

end
-- ==== Proof.ProjIdeal.AccAt.lean ====
/- The block one point computes, element by element, and where it sits in the scratch, over the extended reals. -/
module

public import proofs.«01_k».proof.Proof.ProjIdeal.Acc
public import proofs.«01_k».proof.Proof.ProjIdeal.Math
public import Idealize.ShloMosaic.Lib.Pointwise

@[expose] public section

set_option maxRecDepth 16384

noncomputable section

namespace Cert.ProjIdeal.Hand

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

open Cert.ProjIdeal.Math

theorem dotStep_apply (acc : FVec Ideal S256x512 .f32) (sa sb : Vec Ideal S1x1x512 .f32) (w : Vec Ideal S256x512 .fp8e4m3) (y : Vec Ideal S256x256 .bf16) (r : Fin 256) (c : Fin 512) :
    dotStep (F := Ideal) acc sa sb w y (ix2 r c) = acc (ix2 r c) + ∑ p : Fin 256, y (ix2 r p) * (w (ix2 p c) * (if p.val < 128 then sa (ix3 0 0 c) else sb (ix3 0 0 c))) := by
  pointwise [dotStep]

theorem ldW (x1 : Vec Ideal S12288x512 .fp8e4m3) (k : ℕ) (h : k < 48) (p : Fin 256) (c : Fin 512) :
   (View.ld x1 (Rect.unit (s := S12288x512) ![256 * k, 0] S256x512.size (inbW k h))) (ix2 p c) = x1 (ix2 ⟨256 * k + p.val, by omega⟩ c) := by
  pointwise []
theorem ldX (x0 : Vec Ideal S256x12288 .bf16) (k : ℕ) (h : k < 48) (r : Fin 256) (p : Fin 256) :
   (View.ld x0 (Rect.unit (s := S256x12288) ![0, 256 * k] S256x256.size (inbX k h))) (ix2 r p) = x0 (ix2 r ⟨256 * k + p.val, by omega⟩) := by
  pointwise []
theorem ldS (x2 : Vec Ideal S1x96x512 .f32) (k : ℕ) (h : k < 96) (c : Fin 512) :
   (View.ld x2 (Rect.unit (s := S1x96x512) ![0, k, 0] S1x1x512.size (inbS k h))) (ix3 0 0 c) = x2 (ix3 0 ⟨k, h⟩ c) := by
  pointwise []

/-- Product `K` of the block's element at row `r`, column `c`. -/
def prodAt (x0 : Vec Ideal S256x12288 .bf16) (x1 : Vec Ideal S12288x512 .fp8e4m3) (x2 : Vec Ideal S1x96x512 .f32) (r : Fin 256) (c : Fin 512) (K : Fin 12288) : EReal :=
  x0 (ix2 r K) * (x1 (ix2 K c) * x2 (ix3 0 ⟨K.val / 128, by omega⟩ c))

theorem accUpTo_apply (x0 : Vec Ideal S256x12288 .bf16) (x1 : Vec Ideal S12288x512 .fp8e4m3) (x2 : Vec Ideal S1x96x512 .f32) (r : Fin 256) (c : Fin 512) :
    ∀ n (h : n ≤ 48), accUpTo (F := Ideal) x0 x1 x2 n h (ix2 r c) = ∑ K : Fin (256 * n), prodAt x0 x1 x2 r c ⟨K.val, by omega⟩
  | 0, _ => by
    pointwise [accUpTo]
    exact (Finset.sum_eq_zero fun x _ => absurd x.isLt (by simp)).symm
  | k + 1, h => by
    rw [show accUpTo (F := Ideal) x0 x1 x2 (k + 1) h = dotStep _ _ _ _ _ from rfl, dotStep_apply, accUpTo_apply x0 x1 x2 r c k (by omega)]
    refine Eq.trans ?_ (Fin.sum_univ_add (a := 256 * k) (b := 256) (f := fun K : Fin (256 * k + 256) => prodAt x0 x1 x2 r c ⟨K.val, by have := K.isLt; omega⟩)).symm
    refine congrArg₂ (· + ·) rfl (Finset.sum_congr rfl fun p _ => ?_)
    rw [ldW x1 k (by omega), ldX x0 k (by omega), ldS x2 (2 * k) (by omega), ldS x2 (2 * k + 1) (by omega)]
    have hp := p.isLt
    unfold prodAt
    by_cases h1 : p.val < 128
    · rw [if_pos h1]
      have e : (256 * k + p.val) / 128 = 2 * k := by omega
      simp only [Fin.val_natAdd, e]
    · rw [if_neg h1]
      have e : (256 * k + p.val) / 128 = 2 * k + 1 := by omega
      simp only [Fin.val_natAdd, e]

/-- The block at an index: the products, all added. -/
theorem accPay_apply (x0 : Vec Ideal S256x12288 .bf16) (x1 : Vec Ideal S12288x512 .fp8e4m3) (x2 : Vec Ideal S1x96x512 .f32) (r : Fin 256) (c : Fin 512) :
    accPay (F := Ideal) x0 x1 x2 (ix2 r c) = proj (fun K => x0 (ix2 r K)) (fun K => x1 (ix2 K c)) (fun k => x2 (ix3 0 k c)) := by
  have e : accPay (F := Ideal) x0 x1 x2 (ix2 r c) = accUpTo (F := Ideal) x0 x1 x2 48 le_rfl (ix2 r c) := by
    unfold accPay
    generalize accUpTo (F := Ideal) x0 x1 x2 48 le_rfl = a
    pointwise []
  rw [e, accUpTo_apply x0 x1 x2 r c 48 le_rfl]
  rfl

/-! ## The point's columns of the scratch -/

theorem cols_emb (i : grid0.Coords) (r : Fin 256) (c : Fin 512) (C : Fin 6144) (hC : C.val = 512 * (i 1).val + c.val) :
    (cols i).emb (ix2 r c) = ix2 r C := by
  funext a
  apply Fin.ext
  fin_cases a
  · show k0_off1 i 0 + 1 * r.val = r.val
    rw [k0_off1_eq]; simp
  · show k0_off1 i 1 + 1 * c.val = C.val
    rw [k0_off1_eq, hC]; simp

theorem not_cols (i : grid0.Coords) (r : Fin 256) (C : Fin 6144) (hC : C.val < 512 * (i 1).val) : ix2 r C ∉ (cols i).set := by
  intro h
  obtain ⟨j, -, h1⟩ := (cols i).mem_set.mp h 1
  have h2 : C.val = k0_off1 i 1 + 1 * j := h1
  rw [k0_off1_eq] at h2
  simp at h2
  omega

end Cert.ProjIdeal.Hand

end
-- ==== Proof.ProjIdeal.Blocks.lean ====
/- The blocks the body finds in its windows, and the arrays the host operations leave, read at an index. -/
module

public import proofs.«01_k».proof.Proof.ProjIdeal.AccAt
public import Idealize.ShloMosaic.Lib.Pipeline.ValueKit
public import Idealize.ShloMosaic.Lib.Claim
public import Idealize.ShloMosaic.Lib.Pointwise

@[expose] public section

set_option maxRecDepth 16384

noncomputable section

namespace Cert.ProjIdeal.Hand

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

/-! ## The grid's coordinates -/

theorem row0 (t : Fin cfg0.N) : (grid0.coords t 0).val = t.val / 12 := by
  have ht : t.val < 384 := Nat.lt_of_lt_of_eq t.isLt N_0
  have e : (grid0.coords t 0).val = t.val / 12 % 32 := Pipeline.Grid.coords_val t 0 (by decide) rfl
  omega
theorem tile1 (t : Fin cfg0.N) : (grid0.coords t 1).val = t.val % 12 := by
  have e : (grid0.coords t 1).val = t.val / 1 % 12 := Pipeline.Grid.coords_val t 1 (by decide) rfl
  omega
theorem row_lt (t : Fin cfg0.N) : t.val / 12 < 32 := by
  have ht : t.val < 384 := Nat.lt_of_lt_of_eq t.isLt N_0
  omega
theorem toNat_small (x : ℕ) (h : x < 1000) : (BitVec.ofNat 32 x).toNat = x := by
  rw [BitVec.toNat_ofNat]; omega

theorem idx0_0 (t : Fin cfg0.N) : win0_0.index t 0 = t.val / 12 := by
  show (BitVec.ofNat 32 (grid0.coords t 0).val).toNat = _
  have := row_lt t
  rw [row0, toNat_small _ (by omega)]
theorem idx0_1 (t : Fin cfg0.N) : win0_0.index t 1 = 0 := rfl
theorem idx1_0 (t : Fin cfg0.N) : win0_1.index t 0 = 0 := rfl
theorem idx1_1 (t : Fin cfg0.N) : win0_1.index t 1 = t.val % 12 := by
  show (BitVec.ofNat 32 (grid0.coords t 1).val).toNat = _
  rw [tile1, toNat_small _ (by omega)]
theorem idx2_0 (t : Fin cfg0.N) : win0_2.index t 0 = 0 := rfl
theorem idx2_1 (t : Fin cfg0.N) : win0_2.index t 1 = 0 := rfl
theorem idx2_2 (t : Fin cfg0.N) : win0_2.index t 2 = t.val % 12 := by
  show (BitVec.ofNat 32 (grid0.coords t 1).val).toNat = _
  rw [tile1, toNat_small _ (by omega)]
theorem idx4_0 (t : Fin cfg0.N) : win0_4.index t 0 = t.val / 12 := by
  show (BitVec.ofNat 32 (grid0.coords t 0).val).toNat = _
  have := row_lt t
  rw [row0, toNat_small _ (by omega)]
theorem idx4_1 (t : Fin cfg0.N) : win0_4.index t 1 = 0 := rfl

/-! ## What the host operations leave -/

/-- The scales: one per tile of 128 columns, repeated across the tile. -/
theorem V_scales (c : Dev nD) (k : Fin 96) (v : Fin 6144) :
    V m c main_v2 (ix3 0 k v) = m ((c : Thread nD τ).loc main_arg3) (ix2 k ⟨v.val / 128, by omega⟩) := by
  entry_read
  pointwise []

/-! ## The windows' blocks -/

/-- A row of a row block. -/
abbrev rowOf (t : Fin cfg0.N) (r : Fin 256) : Fin 8192 := ⟨256 * (t.val / 12) + r.val, by have := row_lt t; have := r.isLt; omega⟩
/-- A column of a column block. -/
abbrev colOf (t : Fin cfg0.N) (x : Fin 512) : Fin 6144 := ⟨512 * (t.val % 12) + x.val, by have := x.isLt; omega⟩

theorem blk0 (c : Dev nD) (t : Fin cfg0.N) (r : Fin 256) (K : Fin 12288) :
    iblk m c 0 t (ix2 r K) = m ((c : Thread nD τ).loc main_arg0) (ix2 (rowOf t r) K) := by
  blk_ext [iblk, V, idx0_0, idx0_1]

theorem blk1 (c : Dev nD) (t : Fin cfg0.N) (K : Fin 12288) (x : Fin 512) :
    iblk m c 1 t (ix2 K x) = m ((c : Thread nD τ).loc main_arg2) (ix2 K (colOf t x)) := by
  blk_ext [iblk, V, idx1_0, idx1_1]

theorem blk2 (c : Dev nD) (t : Fin cfg0.N) (k : Fin 96) (x : Fin 512) :
    iblk m c 2 t (ix3 0 k x) = m ((c : Thread nD τ).loc main_arg3) (ix2 k ⟨(colOf t x).val / 128, by omega⟩) := by
  refine Eq.trans ?_ (V_scales m c k (colOf t x))
  blk_ext [iblk, idx2_0, idx2_1, idx2_2]

end Cert.ProjIdeal.Hand

end
-- ==== Proof.ProjIdeal.RunA.lean ====
/- The run of the projection's body away from the last column block. -/
module

public import proofs.«01_k».proof.Proof.ProjIdeal.Acc

@[expose] public section

set_option maxRecDepth 16384

noncomputable section

namespace Cert.ProjIdeal.Hand

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body away from the last column block: it stores its block into the scratch and leaves the output alone. -/
theorem run_A (c : Dev nD) (i : grid0.Coords) (arg2 : Memref sig .tc .vmem S256x12288 .bf16) (harg2 : arg2.IsWhole) (arg3 : Memref sig .tc .vmem S12288x512 .fp8e4m3) (harg3 : arg3.IsWhole) (arg4 : Memref sig .tc .vmem S1x96x512 .f32) (harg4 : arg4.IsWhole) (arg5 : Memref sig .tc .vmem S1x6144 .f32) (harg5 : arg5.IsWhole) (arg6 : Memref sig .tc .vmem S256x6144 .bf16) (harg6 : arg6.IsWhole) (arg7 : Memref sig .tc .vmem S256x6144 .fp8e4m3) (harg7 : arg7.IsWhole) (arg8 : Memref sig .tc .vmem S256x48 .f32) (harg8 : arg8.IsWhole) (arg9 : Memref sig .tc .vmem S256x6144 .bf16) (harg9 : arg9.IsWhole) (arg10 : Memref sig .tc .vmem S256x6144 .f32) (harg10 : arg10.IsWhole) (hc0 : ¬cond0_0 i)
    (x0 : Vec F S256x12288 .bf16) (x1 : Vec F S12288x512 .fp8e4m3) (x2 : Vec F S1x96x512 .f32) (x3 : Vec F S1x6144 .f32) (x4 : Vec F S256x6144 .bf16) (xs : Vec F S256x6144 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ xs', ⌜Slab i (accPay x0 x1 x2) xs xs'⌝ ∗ owns (c : Thread nD τ) arg10 fullShare xs')) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10) K := by
    intro E K
    simp only [cc0_proj_eq_skeleton]; unfold cc0_proj_skel
    simp only [k0_part329_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, Hk⟩
    subst hf0; subst hf1; subst hf2; subst hf3; subst hf4; subst hfs0
    sl_exec (disch := first | sl_exact hc0)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    iexists View.read (Elt F) arg10.view (arg10.view.writes (Elt F) fs0 [⟨cols i, accPay (View.read (Elt F) arg2.view f0) (View.read (Elt F) arg3.view f1) (View.read (Elt F) arg4.view f2)⟩])
    isplitr
    · ipureintro; exact slab_of arg10.view fs0 i _
    iexists _; isplitr; swap; · iexact HS0
    ipureintro
    rfl

end Cert.ProjIdeal.Hand

end
-- ==== Proof.ProjIdeal.RunB.lean ====
/- The run of the projection's body at the last column block. -/
module

public import proofs.«01_k».proof.Proof.ProjIdeal.RunA

@[expose] public section

set_option maxRecDepth 16384

noncomputable section

namespace Cert.ProjIdeal.Hand

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
/-- The body at the last column block: it stores its block into the scratch and the scratch, rounded, into the output. -/
theorem run_B (c : Dev nD) (i : grid0.Coords) (arg2 : Memref sig .tc .vmem S256x12288 .bf16) (harg2 : arg2.IsWhole) (arg3 : Memref sig .tc .vmem S12288x512 .fp8e4m3) (harg3 : arg3.IsWhole) (arg4 : Memref sig .tc .vmem S1x96x512 .f32) (harg4 : arg4.IsWhole) (arg5 : Memref sig .tc .vmem S1x6144 .f32) (harg5 : arg5.IsWhole) (arg6 : Memref sig .tc .vmem S256x6144 .bf16) (harg6 : arg6.IsWhole) (arg7 : Memref sig .tc .vmem S256x6144 .fp8e4m3) (harg7 : arg7.IsWhole) (arg8 : Memref sig .tc .vmem S256x48 .f32) (harg8 : arg8.IsWhole) (arg9 : Memref sig .tc .vmem S256x6144 .bf16) (harg9 : arg9.IsWhole) (arg10 : Memref sig .tc .vmem S256x6144 .f32) (harg10 : arg10.IsWhole) (hc0 : cond0_0 i)
    (x0 : Vec F S256x12288 .bf16) (x1 : Vec F S12288x512 .fp8e4m3) (x2 : Vec F S1x96x512 .f32) (x3 : Vec F S1x6144 .f32) (x4 : Vec F S256x6144 .bf16) (xs : Vec F S256x6144 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg7 fullShare d) ∗ (∃ d, owns (c : Thread nD τ) arg8 fullShare d) ∗ (∃ d, owns (c : Thread nD τ) arg9 fullShare d) ∗ (∃ xs', ⌜Slab i (accPay x0 x1 x2) xs xs'⌝ ∗ owns (c : Thread nD τ) arg6 fullShare (truncf .bf16 (s := S256x6144) xs' bitsLt_bf16_f32) ∗ owns (c : Thread nD τ) arg10 fullShare xs')) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10) K := by
    intro E K
    simp only [cc0_proj_eq_skeleton]; unfold cc0_proj_skel
    simp only [k0_part329_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part303_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part304_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part305_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part306_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part307_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, Hk⟩
    subst hf0; subst hf1; subst hf2; subst hf3; subst hf4; subst hfs0
    sl_exec (disch := first | sl_exact hc0)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    iexists View.read (Elt F) arg10.view (arg10.view.writes (Elt F) fs0 [⟨cols i, accPay (View.read (Elt F) arg2.view f0) (View.read (Elt F) arg3.view f1) (View.read (Elt F) arg4.view f2)⟩])
    isplitr
    · ipureintro; exact slab_of arg10.view fs0 i _
    isplitl [H4]
    · iexists _; isplitr; swap; · iexact H4
      ipureintro
      refine read_tiles arg6.view f4 _ ![64, 128] _ ?_ ?_
      · sl_kernel_rfl
      · repeat' (first | exact fun x => rfl | apply And.intro | trivial)
    iexists _; isplitr; swap; · iexact HS0
    ipureintro
    rfl

end Cert.ProjIdeal.Hand

end
-- ==== Proof.ProjIdeal.Frame.lean ====
/- The run of the projection from what one run of its body does: a relation `I` on the scratch that the body keeps from
   point to point, and the blocks `O` it leaves at the last column block. -/
module

public import proofs.«01_k».proof.Proof.ProjIdeal.RunB
public import Idealize.ShloMosaic.Lib.Claim

@[expose] public section

set_option maxRecDepth 16384

noncomputable section

namespace Cert.ProjIdeal.Hand

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The outputs of which nothing is stated: the codes, the scales and the dequantized projection. -/
def forgets0 : Fin 8 → Bool := fun w => w.val == 5 || w.val == 6 || w.val == 7

variable (I : Dev nD → ℕ → Vec F S256x6144 .f32 → Prop)
variable (O : Dev nD → Fin cfg0.N → Vec F S256x6144 .bf16)

/-- The scratch held at contents of which `I` is known, and the generator at some state. -/
def PhiI (c : Dev nD) (n : ℕ) : sProp 𝕄 :=
  iprop(iprop(∃ xs, ⌜I c n xs⌝ ∗ owns (c : Thread nD τ) scM0_0 fullShare xs) ∗ (∃ r, prngReg c r))

/-- The proof data: the arrays as the region finds them, each input's block left in place, the projection's block `O` at
    the last column block, the other outputs unnamed; the scratch as `I` says between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => O c t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ t := PhiI I c t.val
  q _ := fullShare
  owed _ := 0

/-- What one run of the body must do for `I` to hold throughout and `O` to be what is written back. -/
structure Steps : Prop where
  /-- Nothing is known before the first column block of a row block. -/
  first : ∀ c n xs, n % 12 = 0 → I c n xs
  /-- The body takes what is known before a point to what is known after it. -/
  step : ∀ c (t : Fin cfg0.N) xs xs', I c t.val xs →
    Slab (grid0.coords t) (accPay (iblk m c 0 t) (iblk m c 1 t) (iblk m c 2 t)) xs xs' → I c (t.val + 1) xs'
  /-- At the last column block the body leaves `O`. -/
  out : ∀ c (t : Fin cfg0.N) xs xs', I c t.val xs →
    Slab (grid0.coords t) (accPay (iblk m c 0 t) (iblk m c 1 t) (iblk m c 2 t)) xs xs' → t.val % 12 = 11 →
    truncf .bf16 (s := S256x6144) xs' bitsLt_bf16_f32 = O c t

theorem A_eq (c : Dev nD) (w : Fin cfg0.W) : (dats m I O 0 c).A w = V m c (Pipeline.arrRef spec0 w) := by dsimp only [dats]

theorem before0_0 (c : Dev nD) (t : Fin cfg0.N) (d) : (dats m I O 0 c).before 0 t d = iblk m c 0 t :=
  before0_0_of m (dats m I O 0 c) (A_eq m I O c 0) (fun _ => rfl) t d
theorem before0_1 (c : Dev nD) (t : Fin cfg0.N) (d) : (dats m I O 0 c).before 1 t d = iblk m c 1 t :=
  before0_1_of m (dats m I O 0 c) (A_eq m I O c 1) (fun _ => rfl) t d
theorem before0_2 (c : Dev nD) (t : Fin cfg0.N) (d) : (dats m I O 0 c).before 2 t d = iblk m c 2 t :=
  before0_2_of m (dats m I O 0 c) (A_eq m I O c 2) (fun _ => rfl) t d
theorem before0_3 (c : Dev nD) (t : Fin cfg0.N) (d) : (dats m I O 0 c).before 3 t d = iblk m c 3 t :=
  before0_3_of m (dats m I O 0 c) (A_eq m I O c 3) (fun _ => rfl) t d

/-- What the body leaves in the projection's buffer, as the obligation asks it. -/
theorem leaves4 (c : Dev nD) (t : Fin cfg0.N) (d4 X : Vec F S256x6144 .bf16) (hX : X = if t.val % 12 = 11 then O c t else (dats m I O 0 c).before 4 t d4) :
    owns (c : Thread nD τ) (ms0_4 t) fullShare X ⊢ ((dats m I O 0 c).leaves 4 t : sProp 𝕄) := by
  by_cases h : t.val % 12 = 11
  · rw [if_pos h] at hX
    unfold Dat.leaves; rw [live4 t h]
    subst hX
    iintro H; iexact H
  · rw [if_neg h] at hX
    rw [Dat.leaves_idle (dats m I O 0 c) 4 t (idle4 t h).1 (idle4 t h).2]
    subst hX
    iintro H; iexists d4; iexact H

/-- What the body is called with at a point, -/
def bodyPre (c : Dev nD) (t : Fin cfg0.N) : sProp 𝕄 :=
  iprop(PhiI I c t.val ∗ (dats m I O 0 c).owesAt () t.castSucc
    ∗ (∃ d, owns (c : Thread nD τ) (ms0_0 t) fullShare ((dats m I O 0 c).before 0 t d))
    ∗ (∃ d, owns (c : Thread nD τ) (ms0_1 t) fullShare ((dats m I O 0 c).before 1 t d))
    ∗ (∃ d, owns (c : Thread nD τ) (ms0_2 t) fullShare ((dats m I O 0 c).before 2 t d))
    ∗ (∃ d, owns (c : Thread nD τ) (ms0_3 t) fullShare ((dats m I O 0 c).before 3 t d))
    ∗ (∃ d, owns (c : Thread nD τ) (ms0_4 t) fullShare ((dats m I O 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop(PhiI I c (t.val + 1) ∗ (dats m I O 0 c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ (dats m I O 0 c).leaves 4 t
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 2000000 in
/-- The body at any point: the condition holds or not, and the run of that case applies. -/
theorem sound_body (hI : Steps m I O) (c : Dev nD) (t : Fin cfg0.N) :
    bodyPre m I O c t ⊢ wp frame (wpE (defs₀ (F := F)) Variants.none c none) Set.univ (bodyAt0 t) (fun _ => bodyPost m I O c t) := by
  unfold bodyPre bodyPost bodyAt0 PhiI
  simp only [before0_0, before0_1, before0_2, before0_3]
  by_cases h0 : t.val % 12 = 11
  · iintro ⟨⟨⟨%xs, %hs, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_B c (grid0.coords t) _ _ _ _ _ _ _ _ _ _ _ _ _ _ _ _ _ _ ((hcond0_0 t).mpr h0) (iblk m c 0 t) (iblk m c 1 t) (iblk m c 2 t) (iblk m c 3 t) ((dats m I O 0 c).before 4 t d4) xs Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    iintro ⟨H0, H1, H2, H3, H5, H6, H7, ⟨%xs', %hx, H4, HS0⟩⟩
    isplitl [HS0 Hg]
    · isplitl [HS0]
      · iexists xs'
        isplitr; · ipureintro; exact hI.step c t xs xs' hs hx
        iexact HS0
      iexact Hg
    isplitl [Ho]; · iexact Ho
    isplitl [H0]; · iexact H0
    isplitl [H1]; · iexact H1
    isplitl [H2]; · iexact H2
    isplitl [H3]; · iexact H3
    isplitl [H4]
    · rw [hI.out c t xs xs' hs hx h0]
      iapply (leaves4 m I O c t d4 _ (if_pos h0).symm)
      iexact H4
    isplitl [H5]; · iexact H5
    isplitl [H6]; · iexact H6
    iexact H7
  · iintro ⟨⟨⟨%xs, %hs, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_A c (grid0.coords t) _ _ _ _ _ _ _ _ _ _ _ _ _ _ _ _ _ _ (fun h => h0 ((hcond0_0 t).mp h)) (iblk m c 0 t) (iblk m c 1 t) (iblk m c 2 t) (iblk m c 3 t) ((dats m I O 0 c).before 4 t d4) xs Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    iintro ⟨H0, H1, H2, H3, H4, H5, H6, H7, ⟨%xs', %hx, HS0⟩⟩
    isplitl [HS0 Hg]
    · isplitl [HS0]
      · iexists xs'
        isplitr; · ipureintro; exact hI.step c t xs xs' hs hx
        iexact HS0
      iexact Hg
    isplitl [Ho]; · iexact Ho
    isplitl [H0]; · iexact H0
    isplitl [H1]; · iexact H1
    isplitl [H2]; · iexact H2
    isplitl [H3]; · iexact H3
    isplitl [H4]
    · iapply (leaves4 m I O c t d4 _ (if_neg h0).symm)
      iexact H4
    isplitl [H5]; · iexact H5
    isplitl [H6]; · iexact H6
    iexact H7

/-- The body table's row at point `t`'s slots is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body does at every point what the pipeline asks of it. -/
theorem body_obligation (hI : Steps m I O) (c : Dev nD) : BodyObligationLoose (dats m I O 0 c) (defs₀ (F := F)) Variants.none () Set.univ forgets0 := fun t => by
  rw [bigSep_W0, bigSep_W0, defs₀_row]
  exact triple_restated (sound_body m I O hI c t) rfl .rfl fun _ => .rfl

-- the library theorem's implicit arguments are found by unifying its conclusion with this statement
set_option backward.isDefEq.respectTransparency.types false in
/-- Every weakly fair execution of the program ends; the projection is what the blocks `O` make it, every buffer but the
    other outputs ends as the region found it, and every semaphore counter at zero. -/
theorem run_main (hI : Steps m I O) :
    θ_run defs (onTc (τ := τ) (main (F := F))) (s₀ m ρ)
      (fun r => (Pipeline.RDat.FramePost (cfgs 0) (fun c => (dats m I O 0 c).toRForget forgets0) (V m)) r ∧ r.2.sem = fun _ => 0) :=
  Pipeline.θ_run_frame_track_forget (Q' := _) cfgs (dats m I O) (0 : Fin 1) launch0 defs₀ Variants.none forgets0 m ρ main
    (body_obligation m I O hI) (fun c => (dats m I O 0 c).share_full fun _ => rfl)
    (fun _ _ => rfl) (V m) (hmain m Variants.none) (A_eq m I O)
    (fun c => by
      rw [show (dats m I O 0 c).Φ 0 = PhiI I c 0 from rfl, PhiA0_eq]; unfold PhiI
      iintro ⟨⟨%s0, HS0⟩, Hg⟩
      isplitl [HS0]
      · iexists s0
        isplitr; · ipureintro; exact hI.first c 0 s0 rfl
        iexact HS0
      iexact Hg)
    (fun c => by
      rw [show (dats m I O 0 c).Φ (Fin.last cfg0.N) = PhiI I c (Fin.last cfg0.N).val from rfl, PhiA0_eq]; unfold PhiI
      iintro ⟨⟨%s0, %hs, HS0⟩, Hg⟩
      isplitl [HS0]
      · iexists _; iexact HS0
      iexact Hg)

/-- The frame, quiescence, and the projection. -/
theorem run_value (hI : Steps m I O) :
    θ_run defs (onTc (τ := τ) (main (F := F))) ⟨m, fun _ => 0, ρ⟩ (fun r => (∀ c : Dev nD,
      r.2.mem ((c.tc : Thread nD τ).loc main_v4_0) = (dats m I O 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨((dats m I O 0 c).toRForget_arrAt_iff (fgt := forgets0) (w := 4) rfl _ _).mp ((h.1 c).1 4),
      (Pipeline.RDat.FramePost.arr_in h.1 c 0 rfl).trans ((A_eq m I O c 0).trans (V_main_arg0 m c)),
      ((h.1 c).2 main_arg1 (Pipeline.mem_restRefs_of main_arg1 (by decide) (by decide))).trans (V_main_arg1 m c),
      (Pipeline.RDat.FramePost.arr_in h.1 c 1 rfl).trans ((A_eq m I O c 1).trans (V_main_arg2 m c)),
      ((h.1 c).2 main_arg3 (Pipeline.mem_restRefs_of main_arg3 (by decide) (by decide))).trans (V_main_arg3 m c)⟩, h.2⟩) (run_main m ρ I O hI)

end Cert.ProjIdeal.Hand

end
-- ==== Proof.ProjIdeal.Inv.lean ====
/- What the scratch holds between points: the columns computed so far of the row block's projection. -/
module

public import proofs.«01_k».proof.Proof.ProjIdeal.Blocks
public import proofs.«01_k».proof.Proof.ProjIdeal.Frame
public import proofs.«01_k».proof.Proof.ProjIdeal.AccAt

@[expose] public section

set_option maxRecDepth 16384

noncomputable section

namespace Cert.ProjIdeal.Hand

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

open Cert.ProjIdeal.Math

/-- The projection at a row and a column, from the arguments. -/
def projOf (c : Dev nD) (R : Fin 8192) (C : Fin 6144) : EReal :=
  proj (fun K => m ((c : Thread nD τ).loc main_arg0) (ix2 R K)) (fun K => m ((c : Thread nD τ).loc main_arg2) (ix2 K C))
    (fun k => m ((c : Thread nD τ).loc main_arg3) (ix2 k ⟨C.val / 128, by omega⟩))

/-- The block a point computes is its block of the projection. -/
theorem accPay_blk (c : Dev nD) (t : Fin cfg0.N) (r : Fin 256) (x : Fin 512) :
    accPay (F := Ideal) (iblk m c 0 t) (iblk m c 1 t) (iblk m c 2 t) (ix2 r x) = projOf m c (rowOf t r) (colOf t x) := by
  refine (accPay_apply (iblk m c 0 t) (iblk m c 1 t) (iblk m c 2 t) r x).trans ?_
  unfold projOf
  simp only [blk0, blk1, blk2]

/-- The scratch holds the first `n` column blocks of the projection of the row block of point `t`. -/
def Done (c : Dev nD) (t : Fin cfg0.N) (n : ℕ) (xs : Vec Ideal S256x6144 .f32) : Prop :=
  ∀ (r : Fin 256) (C : Fin 6144), C.val < 512 * n → xs (ix2 r C) = projOf m c (rowOf t r) C

/-- What is known of the scratch before point `n`: past a row block's first column block, the blocks before are done. -/
def Inv (c : Dev nD) (n : ℕ) (xs : Vec Ideal S256x6144 .f32) : Prop :=
  n % 12 ≠ 0 → ∀ t : Fin cfg0.N, t.val = n → Done m c t (n % 12) xs

/-- After the body one more column block is done. -/
theorem tile_done (c : Dev nD) (t : Fin cfg0.N) (xs xs' : Vec Ideal S256x6144 .f32) (h : Inv m c t.val xs)
    (hx : Slab (F := Ideal) (grid0.coords t) (accPay (iblk m c 0 t) (iblk m c 1 t) (iblk m c 2 t)) xs xs') : Done m c t (t.val % 12 + 1) xs' := by
  intro r C hC
  by_cases hlt : C.val < 512 * (t.val % 12)
  · rw [hx.rest _ (not_cols (grid0.coords t) r C (by rw [tile1]; exact hlt))]
    exact h (fun h0 => by rw [h0] at hlt; omega) t rfl r C hlt
  · have e := hx.hit (ix2 r ⟨C.val - 512 * (t.val % 12), by omega⟩)
    rw [cols_emb (grid0.coords t) r _ C (by rw [tile1]; show C.val = 512 * (t.val % 12) + (C.val - 512 * (t.val % 12)); omega)] at e
    rw [e, accPay_blk]
    refine congrArg (projOf m c (rowOf t r)) (Fin.ext ?_)
    show 512 * (t.val % 12) + (C.val - 512 * (t.val % 12)) = C.val
    omega

/-- The block written back at a row block's last point: its rows of the projection. -/
def Out (c : Dev nD) (t : Fin cfg0.N) : Vec Ideal S256x6144 .bf16 := fun i => projOf m c (rowOf t (i 0)) (i 1)

/-- The body keeps the invariant and leaves the projection. -/
theorem steps : Steps m (Inv m) (Out m) where
  first c n xs h := fun h' => absurd h h'
  step c t xs xs' h hx := by
    intro h0 t' ht'
    have e : t'.val / 12 = t.val / 12 := by omega
    have en : (t.val + 1) % 12 = t.val % 12 + 1 := by omega
    have er : ∀ r, rowOf t' r = rowOf t r := fun r => Fin.ext (by show 256 * (t'.val / 12) + r.val = 256 * (t.val / 12) + r.val; rw [e])
    rw [en]
    intro r C hC
    rw [er]
    exact tile_done m c t xs xs' h hx r C hC
  out c t xs xs' h hx h11 := by
    funext i
    rw [eq_ix2 i]
    exact tile_done m c t xs xs' h hx (i 0) (i 1) (by rw [h11]; exact (i 1).isLt)

end Cert.ProjIdeal.Hand

end
-- ==== Proof.ProjIdeal.Value.lean ====
/- The result of the run: the projection. -/
module

public import proofs.«01_k».proof.Proof.ProjIdeal.Inv

@[expose] public section

set_option maxRecDepth 16384

noncomputable section

namespace Cert.ProjIdeal.Hand

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

/-- The result array: the projection of every row. -/
def projection (c : Dev nD) : S8192x6144.Idx → Elt Ideal .bf16 := fun i => projOf m c (i 0) (i 1)

/-- After the run the output's array is the projection. -/
theorem result (c : Dev nD) : (dats m (Inv m) (Out m) 0 c).arrAt 4 cfg0.N = projection m c := by
  refine (dats m (Inv m) (Out m) 0 c).arrAt_eq_of_covers 4 _ (by decide +kernel) fun t hf y => ?_
  have e : (dats m (Inv m) (Out m) 0 c).after 4 t = Out m c t := rfl
  blk_simp [e]
  show projOf m c (rowOf t (y 0)) (y 1) = projOf m c ((win0_4.blk t).view.emb y 0) ((win0_4.blk t).view.emb y 1)
  refine congrArg₂ (projOf m c) (Fin.ext ?_) (Fin.ext ?_)
  · show 256 * (t.val / 12) + (y 0).val = ((win0_4.blk t).view.emb y 0).val
    blk_simp [idx4_0]
    omega
  · show (y 1).val = ((win0_4.blk t).view.emb y 1).val
    blk_simp [idx4_1]

end Cert.ProjIdeal.Hand

end
-- ==== Proof.ProjRef.Value.lean ====
/- The reference projection's one block read at an index, and its result after its run. -/
module

public import proofs.«01_k».proof.Proof.Gen.ProjReferenceIdeal.Frame
public import proofs.«01_k».proof.Proof.Gen.ProjReferenceIdeal.Skeleton
public import proofs.«01_k».proof.Proof.ProjIdeal.Math
public import Idealize.ShloMosaic.Lib.Pointwise
public import Idealize.ShloMosaic.Lib.Pipeline.ValueKit
public import Idealize.ShloMosaic.Lib.Claim

@[expose] public section

set_option maxRecDepth 16384

noncomputable section

namespace Cert.ProjReferenceIdeal.Hand

open Cert.ProjReferenceIdeal.Gen
open Idealize.ShloMosaic Idealize.ShloMosaic.TcCoe Idealize.ShloMosaic.Tactic
open Idealize.SL.Sem
open Idealize.ShloMosaic.Pipeline (Dat Cfg Window)
open Cert.ProjIdeal.Math

variable (m : (ℓ : Loc nD τ sig) → Buf (Elt Ideal) ℓ) (ρ : Dev nD → PrngReg)

/-- The reference's result at a row and a column: the projection of the row onto the column. -/
theorem pay1_apply (w : Vec Ideal S12288x6144 .fp8e4m3) (s : Vec Ideal S96x48 .f32) (x : Vec Ideal S8192x12288 .bf16) (R : Fin 8192) (C : Fin 6144) :
    k0_pay1 (F := Ideal) w s x (ix2 R C) = proj (fun K => x (ix2 R K)) (fun K => w (ix2 K C)) (fun k => s (ix2 k ⟨C.val / 128, by omega⟩)) := by
  unfold proj
  unfold_payloads
  pointwise []

/-! ## The windows' blocks are their whole arrays -/

theorem idx0 (t : Fin cfg0.N) (a : Fin 2) : win0_0.index t a = 0 := rfl
theorem idx1 (t : Fin cfg0.N) (a : Fin 2) : win0_1.index t a = 0 := rfl
theorem idx2 (t : Fin cfg0.N) (a : Fin 2) : win0_2.index t a = 0 := rfl
theorem idx3 (t : Fin cfg0.N) (a : Fin 2) : win0_3.index t a = 0 := rfl

theorem blk0 (c : Dev nD) (t : Fin cfg0.N) : iblk m c 0 t = m ((c : Thread nD τ).loc main_arg0) := by
  funext i
  blk_ext [iblk, V, idx0]
theorem blk1 (c : Dev nD) (t : Fin cfg0.N) : iblk m c 1 t = m ((c : Thread nD τ).loc main_arg2) := by
  funext i
  blk_ext [iblk, V, idx1]
theorem blk2 (c : Dev nD) (t : Fin cfg0.N) : iblk m c 2 t = m ((c : Thread nD τ).loc main_arg3) := by
  funext i
  blk_ext [iblk, V, idx2]

/-- The result array after the run. -/
theorem result (c : Dev nD) : (dats m 0 c).arrAt 3 cfg0.N = k0_pay1 (F := Ideal) (m ((c : Thread nD τ).loc main_arg2)) (m ((c : Thread nD τ).loc main_arg3)) (m ((c : Thread nD τ).loc main_arg0)) := by
  refine (dats m 0 c).arrAt_eq_of_covers 3 _ (by decide +kernel) fun t hf y => ?_
  blk_simp
  rw [after0_3]
  frame_out
  rw [blk0, blk1, blk2]
  refine congrArg _ ?_
  blk_ext [idx3]

/-- The run: the result array's value, the arguments unchanged. -/
theorem run_value : θ_run defs (onTc (τ := τ) (main (F := Ideal))) ⟨m, fun _ => 0, ρ⟩ (fun r => ∀ c : Dev nD,
      r.2.mem ((c.tc : Thread nD τ).loc main_v0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1 c).1 3, h.2 c⟩) (θ_run_and (run_main m ρ) (unchanged m ρ))

end Cert.ProjReferenceIdeal.Hand

end
-- ==== Proof.ProjSame.lean ====
/- The projection's result and its reference's, from the same arguments. -/
module

public import proofs.«01_k».proof.Defs
public import proofs.«01_k».proof.Proof.ProjIdeal.Value
public import proofs.«01_k».proof.Proof.ProjRef.Value

@[expose] public section

noncomputable section

namespace Cert.Proof

open Idealize.ShloMosaic Idealize.ShloMosaic.TcCoe Idealize.SL.Sem

/-- Every execution of the projection ends, its arguments unchanged and its counters at zero. -/
theorem proj_quiescent : Cert.quiescent_ProjIdeal (hProjIdeal := Cert.ProjIdeal.Gen.facts) := fun m g _ =>
  (θ_run Cert.ProjIdeal.defs _ _).mono (fun _ h => ⟨fun c => (h.1 c).2, h.2⟩) (Cert.ProjIdeal.Hand.run_value m g _ _ (Cert.ProjIdeal.Hand.steps m))

/-- The results are equal. -/
theorem proj_same (m : (ℓ : Loc Cert.ProjIdeal.nD Cert.ProjIdeal.τ Cert.ProjIdeal.sig) → Buf (Elt Ideal) ℓ)
    (m' : (ℓ : Loc Cert.ProjReferenceIdeal.nD Cert.ProjReferenceIdeal.τ Cert.ProjReferenceIdeal.sig) → Buf (Elt Ideal) ℓ) (c : Dev Cert.ProjIdeal.nD)
    (h0 : m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0))
    (h2 : m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2))
    (h3 : m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)) :
    (Cert.ProjReferenceIdeal.Gen.dats m' 0 c).arrAt 3 Cert.ProjReferenceIdeal.cfg0.N = Cert.ProjIdeal.Hand.projection m c := by
  rw [Cert.ProjReferenceIdeal.Hand.result, h0, h2, h3]
  funext i
  rw [eq_ix2 i]
  exact Cert.ProjReferenceIdeal.Hand.pay1_apply _ _ _ (i 0) (i 1)

theorem proj_algebraic : Cert.algebraic_ProjIdeal_ProjReferenceIdeal (hProjIdeal := Cert.ProjIdeal.Gen.facts)
    (hProjReferenceIdeal := Cert.ProjReferenceIdeal.Gen.facts) := fun m g m' g' _ hargs =>
  ⟨Cert.ProjIdeal.Hand.projection m,
    (θ_run Cert.ProjIdeal.defs _ _).mono (fun _ h c => ⟨(h.1 c).1.trans (Cert.ProjIdeal.Hand.result m c), (h.1 c).2⟩) (Cert.ProjIdeal.Hand.run_value m g _ _ (Cert.ProjIdeal.Hand.steps m)),
    (θ_run Cert.ProjReferenceIdeal.defs _ _).mono (fun _ h c => ⟨(h c).1.trans (proj_same m m' c (hargs c).1 (hargs c).2.2.1 (hargs c).2.2.2), (h c).2⟩)
      (Cert.ProjReferenceIdeal.Hand.run_value m' g')⟩

end Cert.Proof

end
-- ==== Proof.lean ====
/- The frames, the idealizations and the values of the head call and of the projection call. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Frame
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjReferenceIdeal.Frame
public import proofs.«01_k».proof.Proof.Word.Frame
public import proofs.«01_k».proof.Proof.Same
public import proofs.«01_k».proof.Proof.ProjWord.Frame
public import proofs.«01_k».proof.Proof.ProjSame
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Proj.Gen.facts, Cert.ProjIdeal.Gen.facts, Cert.ProjReferenceIdeal.Gen.facts, Cert.Pre_in_vocab.Hand.facts,
  fun m g _ => Cert.Kernel.Hand.run_frame m g, quiescent, fun m g _ => quiescent m g trivial,
  fun m g _ => Cert.ReferenceIdeal.Gen.frame m g, fun m g _ => Cert.ReferenceIdeal.Gen.frame m g,
  fun m g _ => Cert.Proj.Hand.frame m g, proj_quiescent, fun m g _ => Cert.ProjReferenceIdeal.Gen.frame m g,
  IdealRules.named_const.statement Cert.KernelIdeal.κ "mask" .f32 0xFF61B1E6#32 ⊥ rfl, algebraic, trivial, proj_algebraic⟩

end Cert.Proof

end
